-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S2048x512 : Shape := ⟨2, ![2048, 512]⟩
abbrev S1024x512 : Shape := ⟨2, ![1024, 512]⟩
abbrev S4 : Shape := ⟨1, ![4]⟩
abbrev S_ : Shape := ⟨0, ![]⟩
abbrev S1 : Shape := ⟨1, ![1]⟩
abbrev S256x512 : Shape := ⟨2, ![256, 512]⟩

abbrev nBuf : Space → Nat
  | .hbm => 2
  | .vmem => 2
  | .smem => 0
  | _ => 0

abbrev bufTy : (tb : Table) → Fin (tcTables nBuf tb) → BufTy
  | .hbm, ⟨0, _⟩ => ⟨S1024x1024, .f32⟩
  | .hbm, ⟨1, _⟩ => ⟨S2048x512, .f32⟩
  | .local _ .vmem, ⟨0, _⟩ => ⟨S2048x512, .f32⟩
  | .local _ .vmem, ⟨1, _⟩ => ⟨S1024x512, .f32⟩
  | _, _ => ⟨S1024x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v18 : BitVec 32 := Scalar.muli v8 c1024_i32
  let c0_i32_8 : BitVec 32 := 0#32
  ![v18.toNat, 0]
def k0_off2 (d0 : Dev nD) : Fin 2 → Nat :=
  let c0_i32_9 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v17 : BitVec 32 := Scalar.muli v8 c512_i32
  ![0, v17.toNat]
def k0_off3 (d0 : Dev nD) : Fin 2 → Nat :=
  let c0_i32_15 : BitVec 32 := 0#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_10 v8
  let c512_i32_11 : BitVec 32 := 512#32
  let v22 : BitVec 32 := Scalar.muli v21 c512_i32_11
  ![0, v22.toNat]
def k0_off4 (d0 : Dev nD) : Fin 2 → Nat :=
  let c256_i32_20 : BitVec 32 := 256#32
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_16 v8
  let c512_i32_17 : BitVec 32 := 512#32
  let v28 : BitVec 32 := Scalar.muli v27 c512_i32_17
  ![256, v28.toNat]
def k0_off5 (d0 : Dev nD) : Fin 2 → Nat :=
  let c512_i32_26 : BitVec 32 := 512#32
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.subi c1_i32_21 v8
  let c512_i32_22 : BitVec 32 := 512#32
  let v34 : BitVec 32 := Scalar.muli v33 c512_i32_22
  ![512, v34.toNat]
def k0_off6 (d0 : Dev nD) : Fin 2 → Nat :=
  let c768_i32_30 : BitVec 32 := 768#32
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_27 v8
  let c512_i32_28 : BitVec 32 := 512#32
  let v40 : BitVec 32 := Scalar.muli v39 c512_i32_28
  ![768, v40.toNat]
def k0_off7 (d0 : Dev nD) (c0_i32_37 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_36 : BitVec 32 := 1024#32
  let v49 : BitVec 32 := Scalar.muli v8 c1024_i32_36
  let v50 : BitVec 32 := Scalar.addi v49 c0_i32_37
  let c0_i32_44 : BitVec 32 := 0#32
  ![v50.toNat, 0]
def k0_dev2 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v51 : BitVec 32 := Scalar.muli v2 c4_i32_40
  let v52 : BitVec 32 := Scalar.addi c0_i32_41 v51
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_42 : BitVec 32 := 2#32
  let v53 : BitVec 32 := Scalar.muli v5 c2_i32_42
  let v54 : BitVec 32 := Scalar.addi v52 v53
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_43 : BitVec 32 := 1#32
  let v55 : BitVec 32 := Scalar.muli v9 c1_i32_43
  let v56 : BitVec 32 := Scalar.addi v54 v55
  v56.toNat
def k0_dev3 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v69 : BitVec 32 := Scalar.muli v2 c4_i32_55
  let v70 : BitVec 32 := Scalar.addi c0_i32_56 v69
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v71 : BitVec 32 := Scalar.muli v5 c2_i32_57
  let v72 : BitVec 32 := Scalar.addi v70 v71
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_58 : BitVec 32 := 1#32
  let v73 : BitVec 32 := Scalar.muli v9 c1_i32_58
  let v74 : BitVec 32 := Scalar.addi v72 v73
  v74.toNat
def k0_dev4 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v87 : BitVec 32 := Scalar.muli v2 c4_i32_70
  let v88 : BitVec 32 := Scalar.addi c0_i32_71 v87
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v89 : BitVec 32 := Scalar.muli v5 c2_i32_72
  let v90 : BitVec 32 := Scalar.addi v88 v89
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_73 : BitVec 32 := 1#32
  let v91 : BitVec 32 := Scalar.muli v9 c1_i32_73
  let v92 : BitVec 32 := Scalar.addi v90 v91
  v92.toNat
def k0_dev5 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_85 : BitVec 32 := 4#32
  let v105 : BitVec 32 := Scalar.muli v2 c4_i32_85
  let v106 : BitVec 32 := Scalar.addi c0_i32_86 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v107 : BitVec 32 := Scalar.muli v5 c2_i32_87
  let v108 : BitVec 32 := Scalar.addi v106 v107
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_88 : BitVec 32 := 1#32
  let v109 : BitVec 32 := Scalar.muli v9 c1_i32_88
  let v110 : BitVec 32 := Scalar.addi v108 v109
  v110.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x1024 : Shape := ⟨2, ![2048, 1024]⟩

abbrev nBuf : Space → Nat
  | .hbm => 1
  | .vmem => 0
  | .smem => 0
  | _ => 0

abbrev bufTy : (tb : Table) → Fin (tcTables nBuf tb) → BufTy
  | .hbm, ⟨0, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.KernelIdeal.Pieces.lean ====
/-
The geometry of the exchange: which device each device trades with, the rectangles of the three buffers that
the copies read and write, and the contents each rectangle ends with.

Device `c` keeps one half of the columns of its block of `x` and sends the other half, in four chunks of 256
rows, to its peer. The result buffer is likewise cut in two: the rows of the device's own block, written by a
local copy, and the rows of its peer's block, written by the peer's four transfers.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Peers -/

set_option backward.proofsInPublic true in
/-- The device at the same place of the first two axes and the other place of the third. -/
def peer (c : Dev nD) : Dev nD := ⟨4 * (c.val / 4) + 2 * ((c.val / 2) % 2) + 1 - c.val % 2, by have := c.isLt; unfold nD at *; omega⟩

theorem peer_peer (c : Dev nD) : peer (peer c) = c := by revert c; decide
theorem peer_mod (c : Dev nD) : (peer c).val % 2 = 1 - c.val % 2 := by revert c; decide
theorem peer_ne (c : Dev nD) : peer c ≠ c := by revert c; decide
theorem peer_eq_iff {c d : Dev nD} : peer c = d ↔ c = peer d :=
  ⟨fun h => by rw [← h, peer_peer], fun h => by rw [h, peer_peer]⟩

/-- Trading places is its own inverse. -/
def swap : Dev nD ≃ Dev nD := ⟨peer, peer, peer_peer, peer_peer⟩

/-- The five places where the kernel computes a device's number all name the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)

/-! ## The rectangles -/

abbrev xM : Memref sig .tc .hbm S1024x1024 .f32 := Memref.whole main_arg0
abbrev oM : Memref sig .tc .vmem S2048x512 .f32 := Memref.whole cc0_stg0_0
abbrev sM : Memref sig .tc .vmem S1024x512 .f32 := Memref.whole cc0_scratch0

theorem keepSrc_inb (c : Dev nD) : ∀ a, (![0, 512 * (c.val % 2)] : Fin 2 → Nat) a + S1024x512.size a ≤ S1024x1024.size a := by
  rw [Fin.forall_fin_two]; constructor
  · show 0 + 1024 ≤ 1024; omega
  · show 512 * (c.val % 2) + 512 ≤ 1024; omega
theorem keepDst_inb (c : Dev nD) : ∀ a, (![1024 * (c.val % 2), 0] : Fin 2 → Nat) a + S1024x512.size a ≤ S2048x512.size a := by
  rw [Fin.forall_fin_two]; constructor
  · show 1024 * (c.val % 2) + 1024 ≤ 2048; omega
  · show 0 + 512 ≤ 512; omega
theorem giveSrc_inb (c : Dev nD) (k : Fin 4) :
    ∀ a, (![256 * k.val, 512 - 512 * (c.val % 2)] : Fin 2 → Nat) a + S256x512.size a ≤ S1024x1024.size a := by
  have := k.isLt
  rw [Fin.forall_fin_two]; constructor
  · show 256 * k.val + 256 ≤ 1024; omega
  · show 512 - 512 * (c.val % 2) + 512 ≤ 1024; omega
theorem stage_inb (k : Fin 4) : ∀ a, (![256 * k.val, 0] : Fin 2 → Nat) a + S256x512.size a ≤ S1024x512.size a := by
  have := k.isLt
  rw [Fin.forall_fin_two]; constructor
  · show 256 * k.val + 256 ≤ 1024; omega
  · show 0 + 512 ≤ 512; omega
theorem giveDst_inb (c : Dev nD) (k : Fin 4) :
    ∀ a, (![1024 * (c.val % 2) + 256 * k.val, 0] : Fin 2 → Nat) a + S256x512.size a ≤ S2048x512.size a := by
  have := k.isLt
  rw [Fin.forall_fin_two]; constructor
  · show 1024 * (c.val % 2) + 256 * k.val + 256 ≤ 2048; omega
  · show 0 + 512 ≤ 512; omega

/-- The columns of `x` device `c` keeps; -/
def keepSrc (c : Dev nD) : Memref sig .tc .hbm S1024x512 .f32 :=
  xM.slice (Rect.unit (s := S1024x1024) ![0, 512 * (c.val % 2)] S1024x512.size (keepSrc_inb c)) (fun _ => rfl)
/-- the rows of the result they go to. -/
def keepDst (c : Dev nD) : Memref sig .tc .vmem S1024x512 .f32 :=
  oM.slice (Rect.unit (s := S2048x512) ![1024 * (c.val % 2), 0] S1024x512.size (keepDst_inb c)) (fun _ => rfl)
/-- Chunk `k` of the columns of `x` device `c` gives away; -/
def giveSrc (c : Dev nD) (k : Fin 4) : Memref sig .tc .hbm S256x512 .f32 :=
  xM.slice (Rect.unit (s := S1024x1024) ![256 * k.val, 512 - 512 * (c.val % 2)] S256x512.size (giveSrc_inb c k)) (fun _ => rfl)
/-- the rows of the staging scratch it passes through; -/
def stage (k : Fin 4) : Memref sig .tc .vmem S256x512 .f32 :=
  sM.slice (Rect.unit (s := S1024x512) ![256 * k.val, 0] S256x512.size (stage_inb k)) (fun _ => rfl)
/-- the rows of the peer's result it goes to. -/
def giveDst (c : Dev nD) (k : Fin 4) : Memref sig .tc .vmem S256x512 .f32 :=
  oM.slice (Rect.unit (s := S2048x512) ![1024 * (c.val % 2) + 256 * k.val, 0] S256x512.size (giveDst_inb c k)) (fun _ => rfl)

/-! ### The program's spellings of them -/

theorem keepSrc_eq (c : Dev nD) :
    xM.slice (Rect.unit (s := S1024x1024) (k0_off2 c) S1024x512.size (k0_off2_inb c)) (fun _ => rfl) = keepSrc c :=
  Memref.slice_unit_congr _ (k0_off2_eq c) _ _ (fun _ => rfl) (fun _ => rfl)
theorem keepDst_eq (c : Dev nD) :
    oM.slice (Rect.unit (s := S2048x512) (k0_off1 c) S1024x512.size (k0_off1_inb c)) (fun _ => rfl) = keepDst c :=
  Memref.slice_unit_congr _ (k0_off1_eq c) _ _ (fun _ => rfl) (fun _ => rfl)
theorem giveSrc_eq0 (c : Dev nD) :
    xM.slice (Rect.unit (s := S1024x1024) (k0_off3 c) S256x512.size (k0_off3_inb c)) (fun _ => rfl) = giveSrc c 0 :=
  Memref.slice_unit_congr _ (k0_off3_eq c) _ _ (fun _ => rfl) (fun _ => rfl)
theorem giveSrc_eq1 (c : Dev nD) :
    xM.slice (Rect.unit (s := S1024x1024) (k0_off4 c) S256x512.size (k0_off4_inb c)) (fun _ => rfl) = giveSrc c 1 :=
  Memref.slice_unit_congr _ (k0_off4_eq c) _ _ (fun _ => rfl) (fun _ => rfl)
theorem giveSrc_eq2 (c : Dev nD) :
    xM.slice (Rect.unit (s := S1024x1024) (k0_off5 c) S256x512.size (k0_off5_inb c)) (fun _ => rfl) = giveSrc c 2 :=
  Memref.slice_unit_congr _ (k0_off5_eq c) _ _ (fun _ => rfl) (fun _ => rfl)
theorem giveSrc_eq3 (c : Dev nD) :
    xM.slice (Rect.unit (s := S1024x1024) (k0_off6 c) S256x512.size (k0_off6_inb c)) (fun _ => rfl) = giveSrc c 3 :=
  Memref.slice_unit_congr _ (k0_off6_eq c) _ _ (fun _ => rfl) (fun _ => rfl)
theorem giveDst_eq (c : Dev nD) (k : Fin 4) :
    oM.slice (Rect.unit (s := S2048x512) (k0_off7 c (BitVec.ofNat 32 (256 * k.val))) S256x512.size (k0_off7_inb c k)) (fun _ => rfl) = giveDst c k :=
  Memref.slice_unit_congr _ (k0_off7_eq c k) _ _ (fun _ => rfl) (fun _ => rfl)

/-! ### Their elements -/

theorem mem_keepSrc (c : Dev nD) (i : S1024x1024.Idx) :
    i ∈ (keepSrc c).view.set ↔ 512 * (c.val % 2) ≤ (i 1).val ∧ (i 1).val < 512 * (c.val % 2) + 512 := by
  refine ValueKit.mem_set_slice_whole_iff main_arg0 _ i ((Rect.mem_set_unit.trans Fin.forall_fin_two).trans ?_)
  have := (i 0).isLt
  show (0 ≤ (i 0).val ∧ (i 0).val < 0 + 1024) ∧ _ ↔ _
  refine ⟨fun h => h.2, fun h => ⟨⟨Nat.zero_le _, ?_⟩, h⟩⟩
  rw [Nat.zero_add]; exact this

theorem mem_keepDst (c : Dev nD) (i : S2048x512.Idx) :
    i ∈ (keepDst c).view.set ↔ 1024 * (c.val % 2) ≤ (i 0).val ∧ (i 0).val < 1024 * (c.val % 2) + 1024 := by
  refine ValueKit.mem_set_slice_whole_iff cc0_stg0_0 _ i ((Rect.mem_set_unit.trans Fin.forall_fin_two).trans ?_)
  have := (i 1).isLt
  show _ ∧ (0 ≤ (i 1).val ∧ (i 1).val < 0 + 512) ↔ _
  refine ⟨fun h => h.1, fun h => ⟨h, Nat.zero_le _, ?_⟩⟩
  rw [Nat.zero_add]; exact this

theorem mem_giveSrc (c : Dev nD) (k : Fin 4) (i : S1024x1024.Idx) :
    i ∈ (giveSrc c k).view.set ↔ (256 * k.val ≤ (i 0).val ∧ (i 0).val < 256 * k.val + 256)
      ∧ 512 - 512 * (c.val % 2) ≤ (i 1).val ∧ (i 1).val < 512 - 512 * (c.val % 2) + 512 := by
  refine ValueKit.mem_set_slice_whole_iff main_arg0 _ i ((Rect.mem_set_unit.trans Fin.forall_fin_two).trans ?_)
  exact Iff.rfl

theorem mem_stage (k : Fin 4) (i : S1024x512.Idx) :
    i ∈ (stage k).view.set ↔ 256 * k.val ≤ (i 0).val ∧ (i 0).val < 256 * k.val + 256 := by
  refine ValueKit.mem_set_slice_whole_iff cc0_scratch0 _ i ((Rect.mem_set_unit.trans Fin.forall_fin_two).trans ?_)
  have := (i 1).isLt
  show _ ∧ (0 ≤ (i 1).val ∧ (i 1).val < 0 + 512) ↔ _
  refine ⟨fun h => h.1, fun h => ⟨h, Nat.zero_le _, ?_⟩⟩
  rw [Nat.zero_add]; exact this

theorem mem_giveDst (c : Dev nD) (k : Fin 4) (i : S2048x512.Idx) :
    i ∈ (giveDst c k).view.set ↔ 1024 * (c.val % 2) + 256 * k.val ≤ (i 0).val ∧ (i 0).val < 1024 * (c.val % 2) + 256 * k.val + 256 := by
  refine ValueKit.mem_set_slice_whole_iff cc0_stg0_0 _ i ((Rect.mem_set_unit.trans Fin.forall_fin_two).trans ?_)
  have := (i 1).isLt
  show _ ∧ (0 ≤ (i 1).val ∧ (i 1).val < 0 + 512) ↔ _
  refine ⟨fun h => h.1, fun h => ⟨h, Nat.zero_le _, ?_⟩⟩
  rw [Nat.zero_add]; exact this

/-! ### Where an element of a rectangle lies in its buffer -/

abbrev keepSrcAt (c : Dev nD) (x : S1024x512.Idx) : S1024x1024.Idx := (keepSrc c).view.emb x
abbrev keepDstAt (c : Dev nD) (x : S1024x512.Idx) : S2048x512.Idx := (keepDst c).view.emb x
abbrev giveSrcAt (c : Dev nD) (k : Fin 4) (x : S256x512.Idx) : S1024x1024.Idx := (giveSrc c k).view.emb x
abbrev stageAt (k : Fin 4) (x : S256x512.Idx) : S1024x512.Idx := (stage k).view.emb x
abbrev giveDstAt (c : Dev nD) (k : Fin 4) (x : S256x512.Idx) : S2048x512.Idx := (giveDst c k).view.emb x

theorem keepSrc_at (c : Dev nD) (x : S1024x512.Idx) :
    (keepSrcAt c x 0).val = 0 + (x 0).val ∧ (keepSrcAt c x 1).val = 512 * (c.val % 2) + (x 1).val :=
  ⟨ValueKit.rect_emb_unit_val (s := S1024x1024) ![0, 512 * (c.val % 2)] S1024x512.size (keepSrc_inb c) x 0,
    ValueKit.rect_emb_unit_val (s := S1024x1024) ![0, 512 * (c.val % 2)] S1024x512.size (keepSrc_inb c) x 1⟩
theorem keepDst_at (c : Dev nD) (x : S1024x512.Idx) :
    (keepDstAt c x 0).val = 1024 * (c.val % 2) + (x 0).val ∧ (keepDstAt c x 1).val = 0 + (x 1).val :=
  ⟨ValueKit.rect_emb_unit_val (s := S2048x512) ![1024 * (c.val % 2), 0] S1024x512.size (keepDst_inb c) x 0,
    ValueKit.rect_emb_unit_val (s := S2048x512) ![1024 * (c.val % 2), 0] S1024x512.size (keepDst_inb c) x 1⟩
theorem giveSrc_at (c : Dev nD) (k : Fin 4) (x : S256x512.Idx) :
    (giveSrcAt c k x 0).val = 256 * k.val + (x 0).val ∧ (giveSrcAt c k x 1).val = 512 - 512 * (c.val % 2) + (x 1).val :=
  ⟨ValueKit.rect_emb_unit_val (s := S1024x1024) ![256 * k.val, 512 - 512 * (c.val % 2)] S256x512.size (giveSrc_inb c k) x 0,
    ValueKit.rect_emb_unit_val (s := S1024x1024) ![256 * k.val, 512 - 512 * (c.val % 2)] S256x512.size (giveSrc_inb c k) x 1⟩
theorem stage_at (k : Fin 4) (x : S256x512.Idx) :
    (stageAt k x 0).val = 256 * k.val + (x 0).val ∧ (stageAt k x 1).val = 0 + (x 1).val :=
  ⟨ValueKit.rect_emb_unit_val (s := S1024x512) ![256 * k.val, 0] S256x512.size (stage_inb k) x 0,
    ValueKit.rect_emb_unit_val (s := S1024x512) ![256 * k.val, 0] S256x512.size (stage_inb k) x 1⟩
theorem giveDst_at (c : Dev nD) (k : Fin 4) (x : S256x512.Idx) :
    (giveDstAt c k x 0).val = 1024 * (c.val % 2) + 256 * k.val + (x 0).val ∧ (giveDstAt c k x 1).val = 0 + (x 1).val :=
  ⟨ValueKit.rect_emb_unit_val (s := S2048x512) ![1024 * (c.val % 2) + 256 * k.val, 0] S256x512.size (giveDst_inb c k) x 0,
    ValueKit.rect_emb_unit_val (s := S2048x512) ![1024 * (c.val % 2) + 256 * k.val, 0] S256x512.size (giveDst_inb c k) x 1⟩

/-! ## The contents -/

variable (m : (ℓ : Loc nD τ sig) → Buf (Elt F) ℓ)

/-- Device `c`'s block of `x` at launch. -/
def xin (c : Dev nD) : Buf (Elt F) ((c : Thread nD τ).loc main_arg0) := m ((c : Thread nD τ).loc main_arg0)

/-- The index of row `r`, column `j` of a block of `x`. -/
def at2 (r j : Fin 1024) : S1024x1024.Idx
  | 0 => r
  | 1 => j

theorem at2_ext {r j : Fin 1024} {i : S1024x1024.Idx} (h0 : (i 0).val = r.val) (h1 : (i 1).val = j.val) : i = at2 r j :=
  funext fun a => match a with
    | 0 => Fin.ext h0
    | 1 => Fin.ext h1

/-- The device whose block of `x` row `r` of `c`'s result comes from: of `c` and its peer the one at place `r / 1024`. -/
def source (c : Dev nD) (r : ℕ) : Dev nD := if r / 1024 = c.val % 2 then c else peer c

/-- What device `c`'s result ends with: its half of the columns of both blocks, one block under the other. -/
def outAt (c : Dev nD) : Buf (Elt F) ((c : Thread nD τ).loc cc0_stg0_0) := fun (i : S2048x512.Idx) =>
  xin m (source c (i 0).val)
    (at2 ⟨(i 0).val % 1024, Nat.mod_lt _ (by decide)⟩ ⟨512 * (c.val % 2) + (i 1).val, by have := (i 1).isLt; have : (i 1).val < 512 := this; omega⟩)

/-- What its staging scratch ends with: the half of the columns of its block of `x` that it gives away. -/
def stgAt (c : Dev nD) : Buf (Elt F) ((c : Thread nD τ).loc cc0_scratch0) := fun (i : S1024x512.Idx) =>
  xin m c (at2 ⟨(i 0).val, (i 0).isLt⟩ ⟨512 - 512 * (c.val % 2) + (i 1).val, by have : (i 1).val < 512 := (i 1).isLt; omega⟩)

omit [FloatOps F] in
/-- An element of a block of `x` is an element of the result when the device, the row and the column are the right ones. -/
theorem outAt_of {c d : Dev nD} {i : S1024x1024.Idx} {o : S2048x512.Idx} (hd : source c (o 0).val = d)
    (h0 : (i 0).val = (o 0).val % 1024) (h1 : (i 1).val = 512 * (c.val % 2) + (o 1).val) : xin m d i = outAt m c o := by
  subst hd; exact congrArg (xin m _) (at2_ext h0 h1)

omit [FloatOps F] in
/-- The same of the scratch. -/
theorem stgAt_of {c : Dev nD} {i : S1024x1024.Idx} {o : S1024x512.Idx} (h0 : (i 0).val = (o 0).val)
    (h1 : (i 1).val = 512 - 512 * (c.val % 2) + (o 1).val) : xin m c i = stgAt m c o :=
  congrArg (xin m _) (at2_ext h0 h1)

omit [FloatOps F] in
/-- The local copy leaves the kept rows at the result's contents. -/
theorem lands_keep (c : Dev nD) (fd : Buf (Elt F) ((c : Thread nD τ).loc cc0_stg0_0)) :
    ∀ i ∈ (keepDst c).view.set, (keepDst c).view.write (Elt F) fd ((keepSrc c).view.read (Elt F) (xin m c)) Finset.univ i = outAt m c i := by
  intro i hi
  obtain ⟨(x : S1024x512.Idx), -, rfl⟩ := Finset.mem_map.mp hi
  refine (View.write_emb_of_mem (v := (keepDst c).view) fd _ (Finset.mem_univ x)).trans ?_
  have hd := keepDst_at c x
  have hs := keepSrc_at c x
  have hx : (x 0).val < 1024 := (x 0).isLt
  exact outAt_of m (i := keepSrcAt c x) (o := keepDstAt c x) (if_pos (by omega)) (by omega) (by omega)

omit [FloatOps F] in
/-- Chunk `k`'s copy into the scratch leaves its rows at the scratch's contents. -/
theorem lands_stage (c : Dev nD) (k : Fin 4) (fd : Buf (Elt F) ((c : Thread nD τ).loc cc0_scratch0)) :
    ∀ i ∈ (stage k).view.set, (stage k).view.write (Elt F) fd ((giveSrc c k).view.read (Elt F) (xin m c)) Finset.univ i = stgAt m c i := by
  intro i hi
  obtain ⟨(x : S256x512.Idx), -, rfl⟩ := Finset.mem_map.mp hi
  refine (View.write_emb_of_mem (v := (stage k).view) fd _ (Finset.mem_univ x)).trans ?_
  have hd := stage_at k x
  have hs := giveSrc_at c k x
  exact stgAt_of m (i := giveSrcAt c k x) (o := stageAt k x) (by omega) (by omega)

omit [FloatOps F] in
/-- Device `c`'s transfer of chunk `k` leaves the rows it writes at its peer at the contents of the peer's result. -/
theorem lands_give (c : Dev nD) (k : Fin 4) (fd : Buf (Elt F) ((peer c : Thread nD τ).loc cc0_stg0_0)) :
    ∀ i ∈ (giveDst c k).view.set, (giveDst c k).view.write (Elt F) fd ((stage k).view.read (Elt F) (stgAt m c)) Finset.univ i = outAt m (peer c) i := by
  intro i hi
  obtain ⟨(x : S256x512.Idx), -, rfl⟩ := Finset.mem_map.mp hi
  refine (View.write_emb_of_mem (v := (giveDst c k).view) fd _ (Finset.mem_univ x)).trans ?_
  have hd := giveDst_at c k x
  have hs := stage_at k x
  have hx : (x 0).val < 256 := (x 0).isLt
  have hk := k.isLt
  have hp := peer_mod c
  exact outAt_of m (c := peer c) (d := c) (o := giveDstAt c k x) ((if_neg (by omega)).trans (peer_peer c))
    (show (stageAt k x 0).val = _ by omega) (show 512 - 512 * (c.val % 2) + (stageAt k x 1).val = _ by omega)

/-! ## How the rectangles cover the buffers -/

/-- A row of 1024 lies in one chunk of 256. -/
theorem chunk_of {r : ℕ} (h : r < 1024) : ∃ k : Fin 4, 256 * k.val ≤ r ∧ r < 256 * k.val + 256 :=
  ⟨⟨r / 256, by omega⟩, by dsimp only; omega, by dsimp only; omega⟩

/-- A family of rectangles together with one more covers a buffer, each element once. -/
structure Cover {J : Type} (I : Finset J) (K : Fin 4 → Finset J) : Prop where
  total : ∀ i, i ∈ I ∨ ∃ k, i ∈ K k
  apart : ∀ k, ∀ i ∈ I, i ∉ K k
  once : ∀ k l i, i ∈ K k → i ∈ K l → k = l

/-- `x` is its kept columns and the four chunks of the others. -/
theorem cover_x (c : Dev nD) : Cover (J := S1024x1024.Idx) (keepSrc c).view.set fun k => (giveSrc c k).view.set where
  total i := by
    have h1 : (i 1).val < 1024 := (i 1).isLt
    obtain ⟨k, hk⟩ := chunk_of (r := (i 0).val) (i 0).isLt
    by_cases h : 512 * (c.val % 2) ≤ (i 1).val ∧ (i 1).val < 512 * (c.val % 2) + 512
    · exact .inl ((mem_keepSrc c i).mpr h)
    · exact .inr ⟨k, (mem_giveSrc c k i).mpr ⟨hk, by omega⟩⟩
  apart k i hi hk := by
    have h1 := (mem_keepSrc c i).mp hi
    have h2 := (mem_giveSrc c k i).mp hk
    omega
  once k l i hk hl := by
    have h1 := (mem_giveSrc c k i).mp hk
    have h2 := (mem_giveSrc c l i).mp hl
    exact Fin.ext (by omega)

/-- The result is the rows the device writes itself and the four chunks of the rows its peer writes. -/
theorem cover_out (c : Dev nD) : Cover (J := S2048x512.Idx) (keepDst c).view.set fun k => (giveDst (peer c) k).view.set where
  total i := by
    have h1 : (i 0).val < 2048 := (i 0).isLt
    have hp := peer_mod c
    by_cases h : 1024 * (c.val % 2) ≤ (i 0).val ∧ (i 0).val < 1024 * (c.val % 2) + 1024
    · exact .inl ((mem_keepDst c i).mpr h)
    · obtain ⟨k, hk⟩ := chunk_of (r := (i 0).val - 1024 * ((peer c).val % 2)) (by omega)
      exact .inr ⟨k, (mem_giveDst (peer c) k i).mpr (by omega)⟩
  apart k i hi hk := by
    have h1 := (mem_keepDst c i).mp hi
    have h2 := (mem_giveDst (peer c) k i).mp hk
    have hp := peer_mod c
    have := k.isLt
    omega
  once k l i hk hl := by
    have h1 := (mem_giveDst (peer c) k i).mp hk
    have h2 := (mem_giveDst (peer c) l i).mp hl
    exact Fin.ext (by omega)

/-- The scratch is its four chunks (and nothing else). -/
theorem cover_stage : Cover (J := S1024x512.Idx) ∅ fun k => (stage k).view.set where
  total i := by
    obtain ⟨k, hk⟩ := chunk_of (r := (i 0).val) (i 0).isLt
    exact .inr ⟨k, (mem_stage k i).mpr hk⟩
  apart k i hi hk := absurd hi (Finset.notMem_empty i)
  once k l i hk hl := by
    have h1 := (mem_stage k i).mp hk
    have h2 := (mem_stage l i).mp hl
    exact Fin.ext (by omega)

end Cert.KernelIdeal.Swap

end
-- ==== Proof.KernelIdeal.Protocol.lean ====
/-
The protocol of the exchange: for each of a device's fourteen semaphores one round with one duty, which says who
raises it, by how much, and what the raise hands over.

* The barrier semaphore, raised by the peer on entry: the rows of the peer's result that this device writes.
* The staging semaphore of chunk `k`, raised by the device's own copy: the chunk's rows of the scratch, filled, and
  the elements of `x` the copy read.
* The send semaphore of chunk `k`, raised by the device's own transfer when it has read the chunk: those rows back.
* The receive semaphore of chunk `k`, raised by the peer's transfer when it has landed: the rows of this device's
  result, at their final contents.
* The semaphore of the local copy: the rows it wrote, at their final contents, and the columns of `x` it read.
-/
module

public import proofs.«01_k».proof.Proof.KernelIdeal.Pieces

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Semaphores -/

abbrev barS : Sem sig := (SemArray.scalar (sig.barrier 0 rfl) : Sems sig S_).sem

abbrev sendS (k : Fin 4) : DmaSem sig := (⟨1 + k.val, by omega⟩ : Fin 14)
abbrev recvS (k : Fin 4) : DmaSem sig := (⟨5 + k.val, by omega⟩ : Fin 14)
abbrev stageS (k : Fin 4) : DmaSem sig := (⟨9 + k.val, by omega⟩ : Fin 14)
abbrev keepS : DmaSem sig := (13 : Fin 14)

/-- The fourteen semaphores of the protocol: the barrier under number 0, the DMA semaphores under their own numbers. -/
def csem (j : Fin 14) : SemLoc sig := if j = 0 then .reg barS else .dma j

theorem csem_injective : Function.Injective csem := by
  intro i j h; revert i j; decide

abbrev kcell (cj : Dev nD × Fin 14) : GSem nD τ sig := ((cj.1 : Thread nD τ), csem cj.2)

theorem kcell_injective : Function.Injective kcell := by
  rintro ⟨c, i⟩ ⟨d, j⟩ h
  have h1 : c = d := congrArg (fun g : GSem nD τ sig => g.1.1) h
  have h2 : i = j := csem_injective (congrArg Prod.snd h)
  rw [h1, h2]

abbrev dmaCell (c : Dev nD) (j : DmaSem sig) : GSem nD τ sig := ((c : Thread nD τ), .dma j)
abbrev barCell (c : Dev nD) : GSem nD τ sig := ((c : Thread nD τ), .reg barS)
abbrev recvCell (c : Dev nD) (k : Fin 4) : GSem nD τ sig := dmaCell c (recvS k)

theorem kcell_dma (c : Dev nD) {j : Fin 14} (hj : j ≠ 0) : kcell (c, j) = dmaCell c j := by
  unfold kcell csem; rw [if_neg hj]

theorem kcell_bar (c : Dev nD) : kcell (c, 0) = barCell c := rfl

/-! ## Amounts -/

/-- What moving one chunk of 256 rows credits, -/
abbrev N : ℕ := (stage 0).view.dmaCredit
/-- and what moving the kept half does. -/
abbrev NK : ℕ := (keepDst 0).view.dmaCredit

theorem N_pos : 0 < N := View.dmaCredit_pos _ (by decide)
theorem NK_pos : 0 < NK := View.dmaCredit_pos _ (by decide)

theorem stage_credit (k : Fin 4) : (stage k).view.dmaCredit = N := rfl
theorem give_credit (c : Dev nD) (k : Fin 4) : (giveDst c k).view.dmaCredit = N := rfl
theorem keep_credit (c : Dev nD) : (keepDst c).view.dmaCredit = NK := rfl

/-- What one raise of a semaphore counts: a unit on the barrier, what the transfer moves on the others. -/
def amt : SemLoc sig → ℕ
  | .reg _ => 1
  | .dma j => if j = keepS then NK else N

theorem amt_pos (s : SemLoc sig) : 0 < amt s := by
  cases s with
  | reg _ => exact Nat.one_pos
  | dma j =>
    show 0 < if j = keepS then NK else N
    split
    · exact NK_pos
    · exact N_pos

theorem amt_send (k : Fin 4) : amt (.dma (sendS k)) = N := by fin_cases k <;> rfl
theorem amt_recv (k : Fin 4) : amt (.dma (recvS k)) = N := by fin_cases k <;> rfl
theorem amt_stage (k : Fin 4) : amt (.dma (stageS k)) = N := by fin_cases k <;> rfl
theorem amt_keep : amt (.dma keepS) = NK := rfl

/-! ## The pieces of memory handed over -/

def keepSrcPts (c : Dev nD) : sProp 𝕄 := (keepSrc c).view.loc (c : Thread nD τ) ↦[(keepSrc c).view.set]{fullShare} xin m c
def keepDstPts (c : Dev nD) (f : Buf (Elt F) ((c : Thread nD τ).loc cc0_stg0_0)) : sProp 𝕄 :=
  (keepDst c).view.loc (c : Thread nD τ) ↦[(keepDst c).view.set]{fullShare} f
def giveSrcPts (c : Dev nD) (k : Fin 4) : sProp 𝕄 := (giveSrc c k).view.loc (c : Thread nD τ) ↦[(giveSrc c k).view.set]{fullShare} xin m c
def stagePts (c : Dev nD) (k : Fin 4) (f : Buf (Elt F) ((c : Thread nD τ).loc cc0_scratch0)) : sProp 𝕄 :=
  (stage k).view.loc (c : Thread nD τ) ↦[(stage k).view.set]{fullShare} f
/-- The rows of `d`'s result that `c`'s transfer of chunk `k` writes. -/
def landPts (c d : Dev nD) (k : Fin 4) (f : Buf (Elt F) ((d : Thread nD τ).loc cc0_stg0_0)) : sProp 𝕄 :=
  (giveDst c k).view.loc (d : Thread nD τ) ↦[(giveDst c k).view.set]{fullShare} f

/-- What the peer's signal hands device `c`. -/
def barPay (c : Dev nD) : sProp 𝕄 := bigSep Finset.univ fun k => iprop(∃ f, landPts c (peer c) k f)
def recvPay (c : Dev nD) (k : Fin 4) : sProp 𝕄 := landPts (peer c) c k (outAt m c)
def sendPay (c : Dev nD) (k : Fin 4) : sProp 𝕄 := stagePts c k (stgAt m c)
def stagePay (c : Dev nD) (k : Fin 4) : sProp 𝕄 := iprop(stagePts c k (stgAt m c) ∗ giveSrcPts m c k)
def keepPay (c : Dev nD) : sProp 𝕄 := iprop(keepDstPts c (outAt m c) ∗ keepSrcPts m c)

/-- What a raise of DMA semaphore `j` hands over, by the array `j` is in. -/
def payDma (c : Dev nD) (j : Fin 14) : sProp 𝕄 :=
  if j.val = 0 then iprop(emp)
  else if j.val < 5 then sendPay m c ⟨(j.val - 1) % 4, Nat.mod_lt _ (by decide)⟩
  else if j.val < 9 then recvPay m c ⟨(j.val - 5) % 4, Nat.mod_lt _ (by decide)⟩
  else if j.val < 13 then stagePay m c ⟨(j.val - 9) % 4, Nat.mod_lt _ (by decide)⟩
  else keepPay m c

def pay (c : Dev nD) : SemLoc sig → sProp 𝕄
  | .reg _ => barPay c
  | .dma j => payDma m c j

omit [FloatOps F] in
theorem pay_bar (c : Dev nD) : pay m c (.reg barS) = barPay c := rfl
omit [FloatOps F] in
theorem pay_send (c : Dev nD) (k : Fin 4) : pay m c (.dma (sendS k)) = sendPay m c k := by fin_cases k <;> rfl
omit [FloatOps F] in
theorem pay_recv (c : Dev nD) (k : Fin 4) : pay m c (.dma (recvS k)) = recvPay m c k := by fin_cases k <;> rfl
omit [FloatOps F] in
theorem pay_stage (c : Dev nD) (k : Fin 4) : pay m c (.dma (stageS k)) = stagePay m c k := by fin_cases k <;> rfl
omit [FloatOps F] in
theorem pay_keep (c : Dev nD) : pay m c (.dma keepS) = keepPay m c := rfl

omit [FloatOps F] in
theorem pts_storable (ℓ : Loc nD τ sig) (I : Finset (Idx ℓ)) (f : Buf (Elt F) ℓ) :
    BI.Storable (upEmb : UEmb _ 𝕄) (ℓ ↦[I]{fullShare} f : sProp 𝕄) := inferInstance

omit [FloatOps F] in
instance keepSrcPts_storable (c : Dev nD) : BI.Storable (upEmb : UEmb _ 𝕄) (keepSrcPts (F := F) m c) := pts_storable _ _ _
omit [FloatOps F] in
instance keepDstPts_storable (c : Dev nD) (f) : BI.Storable (upEmb : UEmb _ 𝕄) (keepDstPts (F := F) c f) := pts_storable _ _ _
omit [FloatOps F] in
instance giveSrcPts_storable (c : Dev nD) (k : Fin 4) : BI.Storable (upEmb : UEmb _ 𝕄) (giveSrcPts (F := F) m c k) := pts_storable _ _ _
omit [FloatOps F] in
instance stagePts_storable (c : Dev nD) (k : Fin 4) (f) : BI.Storable (upEmb : UEmb _ 𝕄) (stagePts (F := F) c k f) := pts_storable _ _ _
omit [FloatOps F] in
instance landPts_storable (c d : Dev nD) (k : Fin 4) (f) : BI.Storable (upEmb : UEmb _ 𝕄) (landPts (F := F) c d k f) := pts_storable _ _ _

omit [FloatOps F] in
instance pay_storable (c : Dev nD) (s : SemLoc sig) : BI.Storable (upEmb : UEmb _ 𝕄) (pay m c s) := by
  cases s with
  | reg _ => show BI.Storable upEmb (barPay (F := F) c); unfold barPay; infer_instance
  | dma j =>
    show BI.Storable upEmb (payDma m c j)
    unfold payDma sendPay recvPay stagePay keepPay
    (repeat' split) <;> infer_instance

/-! ## The schedule -/

/-- One round with one duty on every semaphore. -/
def sched : Rounds.Schedule (GSem nD τ sig) Unit 𝕄 where
  duties _ r := if r = 0 then {()} else ∅
  unitless _ := False
  amount g _ _ := amt g.2
  payload g _ _ := pay m g.1.1 g.2
  amount_pos g _ _ _ := amt_pos g.2

instance sched_storable (g : GSem nD τ sig) (r : ℕ) (d : Unit) :
    BI.Storable (upEmb : UEmb _ 𝕄) ((sched (F := F) m).payload g r d) := pay_storable m g.1.1 g.2

omit [FloatOps F] in
theorem duty_mem (g : GSem nD τ sig) : () ∈ (sched (F := F) m).duties g 0 := Finset.mem_singleton_self ()
omit [FloatOps F] in
theorem duties_later (g : GSem nD τ sig) : ∀ r, 1 ≤ r → (sched (F := F) m).duties g r = ∅ := fun r hr => if_neg (by omega)
omit [FloatOps F] in
theorem expect_eq (g : GSem nD τ sig) : (sched (F := F) m).expect g 0 = amt g.2 := Finset.sum_singleton _ _
omit [FloatOps F] in
theorem payload_eq (c : Dev nD) (s : SemLoc sig) : (sched (F := F) m).payload ((c : Thread nD τ), s) 0 () = pay m c s := rfl
omit [FloatOps F] in
theorem rest_eq (c : Dev nD) (s : SemLoc sig) :
    bigSep ((sched (F := F) m).duties ((c : Thread nD τ), s) 0 \ ∅) (fun d => (sched (F := F) m).payload ((c : Thread nD τ), s) 0 d) = pay m c s := by
  rw [Finset.sdiff_empty]; exact bigSep_singleton

/-! ## What a device owes, and the levels -/

/-- The credit device `c` owes its peer for the chunks of a list, the first chunk's last in the sum. -/
def due (c : Dev nD) : List (Fin 4) → CellTallies nD τ sig Unit
  | [] => 0
  | k :: ks => due c ks + tallyAt (recvCell (peer c) k) () N

/-- What it owes at launch: the four chunks and the unit of its signal. -/
def O₀ (c : Dev nD) : CellTallies nD τ sig Unit := due c [0, 1, 2, 3] + tallyAt (barCell (peer c)) () 1

/-- The barrier before the receive semaphores, everything a device does for itself before both. -/
def lv (g : GSem nD τ sig) (_ : Unit) : ℕ := match g.2 with
  | .reg _ => 1
  | .dma j => if 5 ≤ j.val ∧ j.val < 9 then 2 else 0

def L (g : GSem nD τ sig) : Finset Unit := if g.1.2 = .tc then {()} else ∅
theorem L_of_ne (g : GSem nD τ sig) (h : g.1.2 ≠ .tc) : L g = ∅ := if_neg h

theorem lv_recv (c : Dev nD) (k : Fin 4) : lv (recvCell c k) () = 2 := if_pos ⟨by dsimp only; omega, by dsimp only; omega⟩

theorem due_pos {c : Dev nD} {l : List (Fin 4)} {g : GSem nD τ sig} {u : Unit} (h : 0 < due c l g u) : ∃ k, g = recvCell (peer c) k := by
  induction l with
  | nil => exact absurd h (Nat.lt_irrefl 0)
  | cons k ks ih =>
    unfold due at h
    rw [Pi.add_apply, Finsupp.add_apply, tallyAt_apply] at h
    by_cases e : g = recvCell (peer c) k ∧ u = ()
    · exact ⟨k, e.1⟩
    · rw [if_neg e, Nat.add_zero] at h; exact ih h

theorem O₀_pos {c : Dev nD} {g : GSem nD τ sig} {u : Unit} (h : 0 < O₀ c g u) : (∃ k, g = recvCell (peer c) k) ∨ g = barCell (peer c) := by
  unfold O₀ at h
  rw [Pi.add_apply, Finsupp.add_apply, tallyAt_apply] at h
  by_cases e : g = barCell (peer c) ∧ u = ()
  · exact .inr e.1
  · rw [if_neg e, Nat.add_zero] at h; exact .inl (due_pos h)

omit [FloatOps F] in
/-- A device may wait on any semaphore below level 2 while it owes chunks. -/
theorem mayWait_due (c : Dev nD) (l : List (Fin 4)) (s : SemLoc sig) (hs : lv ((c : Thread nD τ), s) () ≤ 1) :
    (levAts L lv : sProp 𝕄) ⊢ MayWait (c : Thread nD τ) s () (due c l) :=
  MayOwe.of_cut (L := L) (lev := lv) 1
    (fun p hp => by rw [Finset.mem_singleton.mp hp]; exact Finset.mem_singleton_self _)
    (fun g u hg => by obtain ⟨k, rfl⟩ := due_pos hg; exact Finset.mem_singleton_self _)
    (fun p hp => by rw [Finset.mem_singleton.mp hp]; exact hs)
    (fun g u hg => by obtain ⟨k, rfl⟩ := due_pos hg; rw [show lv (recvCell (peer c) k) u = 2 from lv_recv _ k]; decide)

omit [FloatOps F] in
/-- The result's staging semaphore may be waited on from the start. -/
theorem mayWait_start (c : Dev nD) (s : SemLoc sig) (hs : lv ((c : Thread nD τ), s) () ≤ 0) :
    (levAts L lv : sProp 𝕄) ⊢ MayWait (c : Thread nD τ) s () (O₀ c) :=
  MayOwe.of_cut (L := L) (lev := lv) 0
    (fun p hp => by rw [Finset.mem_singleton.mp hp]; exact Finset.mem_singleton_self _)
    (fun g u hg => by rcases O₀_pos hg with ⟨k, rfl⟩ | rfl <;> exact Finset.mem_singleton_self _)
    (fun p hp => by rw [Finset.mem_singleton.mp hp]; exact hs)
    (fun g u hg => by
      rcases O₀_pos hg with ⟨k, rfl⟩ | rfl
      · rw [show lv (recvCell (peer c) k) u = 2 from lv_recv _ k]; decide
      · exact Nat.one_pos)

/-! ## What every device knows -/

/-- Every cell's invariant, at the names `K`, and that every cell has reached its round. -/
def records (K : Dev nD × Fin 14 → ℕ) : sProp 𝕄 :=
  iprop((bigSep Finset.univ fun cj => cellInv ER (sched m) (K cj) (kcell cj)) ∗ bigSep Finset.univ fun cj => reached ER (kcell cj) 0)

instance records_persistent (K : Dev nD × Fin 14 → ℕ) : BI.Persistent (records m K) := by unfold records; infer_instance

omit [FloatOps F] in
theorem records_at (K : Dev nD × Fin 14 → ℕ) (cj : Dev nD × Fin 14) :
    records m K ⊢ iprop(cellInv ER (sched m) (K cj) (kcell cj) ∗ reached ER (kcell cj) 0) :=
  BI.sep_mono (bigSep_elim (Finset.mem_univ cj)) (bigSep_elim (Finset.mem_univ cj))

omit [FloatOps F] in
theorem records_dma (K : Dev nD × Fin 14 → ℕ) (c : Dev nD) {j : Fin 14} (hj : j ≠ 0) :
    records m K ⊢ iprop(cellInv ER (sched m) (K (c, j)) (dmaCell c j) ∗ reached ER (dmaCell c j) 0) := by
  rw [← kcell_dma c hj]; exact records_at m K (c, j)

/-! ## Cutting the buffers up and putting them together -/

omit [FloatOps F] in
theorem cut {ℓ : Loc nD τ sig} {I : Finset (Idx ℓ)} {J : Fin 4 → Finset (Idx ℓ)} (h : Cover I J) (f : Buf (Elt F) ℓ) :
    (ℓ ↦{fullShare} f : sProp 𝕄) = iprop((ℓ ↦[I]{fullShare} f) ∗ bigSep Finset.univ fun k => ℓ ↦[J k]{fullShare} f) := by
  classical
  have hU : (Finset.univ : Finset (Idx ℓ)) = I ∪ Finset.univ.biUnion J := by
    refine (Finset.eq_univ_iff_forall.mpr fun i => ?_).symm
    rcases h.total i with hi | ⟨k, hk⟩
    · exact Finset.mem_union_left _ hi
    · exact Finset.mem_union_right _ (Finset.mem_biUnion.mpr ⟨k, Finset.mem_univ k, hk⟩)
  have hd : Disjoint I (Finset.univ.biUnion J) :=
    (Finset.disjoint_biUnion_right _ _ _).mpr fun k _ => Finset.disjoint_left.mpr fun i hi => h.apart k i hi
  rw [hU, ← pointsTo_biUnion Finset.univ J fun k _ l _ hkl => Finset.disjoint_left.mpr fun i hk hl => hkl (h.once k l i hk hl)]
  exact BI.Entails.antisymm (pointsTo_union hd).1 (pointsTo_union hd).2

omit [FloatOps F] in
theorem cut_x (c : Dev nD) :
    (((c : Thread nD τ).loc main_arg0) ↦{fullShare} xin m c : sProp 𝕄) = iprop(keepSrcPts m c ∗ bigSep Finset.univ fun k => giveSrcPts m c k) :=
  cut (ℓ := (c : Thread nD τ).loc main_arg0) (cover_x c) (xin m c)

omit [FloatOps F] in
theorem cut_out (c : Dev nD) (f : Buf (Elt F) ((c : Thread nD τ).loc cc0_stg0_0)) :
    (((c : Thread nD τ).loc cc0_stg0_0) ↦{fullShare} f : sProp 𝕄) = iprop(keepDstPts c f ∗ bigSep Finset.univ fun k => landPts (peer c) c k f) :=
  cut (ℓ := (c : Thread nD τ).loc cc0_stg0_0) (cover_out c) f

omit [FloatOps F] in
theorem cut_stage (c : Dev nD) (f : Buf (Elt F) ((c : Thread nD τ).loc cc0_scratch0)) :
    (((c : Thread nD τ).loc cc0_scratch0) ↦{fullShare} f : sProp 𝕄) = bigSep Finset.univ fun k => stagePts c k f := by
  have h := cut (ℓ := (c : Thread nD τ).loc cc0_scratch0) cover_stage f
  rw [pointsTo_empty] at h
  exact h.trans (Idealize.SL.BI.equiv_iff.mp Idealize.SL.BI.emp_sep)

end Cert.KernelIdeal.Swap

end
-- ==== Proof.KernelIdeal.Steps.lean ====
/-
One theorem per kind of effect the kernel has, each stated once for every device, chunk and semaphore: the signal, the
wait on the barrier, the local copies (of the kept half and of a chunk into the scratch), the transfer of a chunk, and
the wait for a DMA semaphore's round. Last, that the fourteen semaphores close together.
-/
module

public import proofs.«01_k».proof.Proof.KernelIdeal.Protocol

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program on device `c`'s core. -/
abbrev exec (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited on. -/
def debt (c : Dev nD) (O : CellTallies nD τ sig Unit) : sProp 𝕄 := iprop(∃ W : Waits sig Unit, owes (c : Thread nD τ) O W)

section

variable (K : Dev nD × Fin 14 → ℕ)

/-- The signal to the peer: it hands over the rows of this device's result the peer is to write. -/
theorem step_signal (c n : Dev nD) (hn : n = peer c) {a : ℕ} (ha : 1 = a) {k : PUnit → Prog (TpuEff nD τ sig (Elt F) Λ₀ .tc) PUnit} {Q : PUnit → sProp 𝕄} :
    iprop(records m K ∗ debt c (O₀ c) ∗ dutyTok ER (barCell (peer c)) 0 () ∗ barPay (peer c))
      ⊢ iprop((debt c (due c [0, 1, 2, 3]) -∗ exec c (k ⟨⟩) Q)
          -∗ exec c (.op (.semSignal (n : Thread nD τ) barS a) k) Q) := by
  subst hn ha
  unfold debt O₀
  iintro ⟨#HR, ⟨%W, HO⟩, Ht, Hp⟩ Hk
  ihave HI := (records_at m K (peer c, 0)) $$ HR
  icases HI with ⟨#HI, #Hr⟩
  iapply (Rounds.wp_signal 𝒱₀ ER (sched m) (c : Thread nD τ) none (dst := (peer c : Thread nD τ)) (κ := K (peer c, 0))
      (d := ()) (duty_mem m (barCell (peer c))) (show amt (.reg barS) = 1 from rfl) () (due c [0, 1, 2, 3]) rfl) $$ [HO Ht Hp]
  · isplitr; · iexact HI
    isplitl [HO]; · iexact HO
    isplitl [Ht]; · iexact Ht
    isplitl [Hp]; · rw [payload_eq, pay_bar]; iexact Hp
    iexact Hr
  iintro HO
  iapply Hk
  iexists W; iexact HO

/-- The wait for the peer's signal: the rows of the peer's result this device is to write come with it. -/
theorem step_barrier (c : Dev nD) {a : ℕ} (ha : a = 1) {k : PUnit → Prog (TpuEff nD τ sig (Elt F) Λ₀ .tc) PUnit} {Q : PUnit → sProp 𝕄} :
    iprop(records m K ∗ levAts L lv ∗ cred (tallyAt (barCell c) () 1) ∗ debt c (due c [0, 1, 2, 3]) ∗ atPos ER (barCell c) 0 ∅ 0)
      ⊢ iprop(((debt c (due c [0, 1, 2, 3]) ∗ atPos ER (barCell c) 1 ∅ 0 ∗ barPay c) -∗ exec c (k ⟨⟩) Q)
          -∗ exec c (.op (.semWait barS a) k) Q) := by
  subst ha
  unfold debt
  iintro ⟨#HR, #Hl, Hc, ⟨%W, HO⟩, Ha⟩ Hk
  ihave HI := (records_at m K (c, 0)) $$ HR
  icases HI with ⟨#HI, -⟩
  iapply (Rounds.wp_wait_rest_token 𝒱₀ ER (sched m) (c : Thread nD τ) none (κ := K (c, 0))
      (wpE_semWait_eq 𝒱₀ (c : Thread nD τ) none Set.univ) (Set.mem_univ _) () (O := due c [0, 1, 2, 3]) (W := W) (R := 0) (m := 0) (T := ∅)
      (by rw [expect_eq]; rfl)) $$ [Hc HO Ha]
  · isplitr; · iexact HI
    isplitl [Hc]; · iexact Hc
    isplitl [HO]; · iexact HO
    isplitr; · iapply (mayWait_due c [0, 1, 2, 3] (.reg barS) le_rfl); iexact Hl
    iexact Ha
  iintro ⟨HO, Ha, -, Hp⟩
  ihave Hp := (Entails.of_eq ((rest_eq m c (.reg barS)).trans (pay_bar m c))) $$ Hp
  iapply Hk
  isplitl [HO]; · iexists _; iexact HO
  isplitl [Ha]; · iexact Ha
  iexact Hp

/-- The wait on a DMA semaphore for all its round, at whatever levels allow it: the round's payload comes with it. -/
theorem step_wait (c : Dev nD) (j : DmaSem sig) (hj : j ≠ (0 : Fin 14)) {n : DmaSem sig} (hn : n = j) (O : CellTallies nD τ sig Unit)
    (hO : (levAts L lv : sProp 𝕄) ⊢ MayWait (c : Thread nD τ) (.dma j) () O)
    {sp sp' : Space} {s s' : Shape} {e e' : EltTy} {src : Memref sig .tc sp s e} {dst : Memref sig .tc sp' s' e'}
    {hs : src.view.WordExact} {hd : dst.view.WordExact} (ha : dst.view.dmaCredit = amt (.dma j))
    {k : PUnit → Prog (TpuEff nD τ sig (Elt F) Λ₀ .tc) PUnit} {Q : PUnit → sProp 𝕄} :
    iprop(records m K ∗ levAts L lv ∗ cred (tallyAt (dmaCell c j) () (amt (.dma j))) ∗ debt c O ∗ atPos ER (dmaCell c j) 0 ∅ 0)
      ⊢ iprop(((debt c O ∗ atPos ER (dmaCell c j) 1 ∅ 0 ∗ pay m c (.dma j)) -∗ exec c (k ⟨⟩) Q)
          -∗ exec c (.op (.waitDma2 n src dst hs hd) k) Q) := by
  subst hn
  unfold debt
  iintro ⟨#HR, #Hl, Hc, ⟨%W, HO⟩, Ha⟩ Hk
  ihave HI := (records_dma m K c hj) $$ HR
  icases HI with ⟨#HI, -⟩
  rw [← ha]
  iapply (Rounds.wp_wait_rest_token 𝒱₀ ER (sched m) (c : Thread nD τ) none (κ := K (c, n))
      (wpE_waitDma2_eq 𝒱₀ (c : Thread nD τ) none Set.univ) (Set.mem_univ _) () (O := O) (W := W) (R := 0) (m := 0) (T := ∅)
      (by rw [Nat.zero_add, expect_eq]; exact ha)) $$ [Hc HO Ha]
  · isplitr; · iexact HI
    isplitl [Hc]; · iexact Hc
    isplitl [HO]; · iexact HO
    isplitr; · iapply hO; iexact Hl
    iexact Ha
  iintro ⟨HO, Ha, -, Hp⟩
  ihave Hp := (Entails.of_eq (rest_eq m c (.dma n))) $$ Hp
  iapply Hk
  isplitl [HO]; · iexists _; iexact HO
  isplitl [Ha]; · iexact Ha
  iexact Hp

/-- The local copy of the kept half into the result. -/
theorem step_keep (c : Dev nD) {src : Memref sig .tc .hbm S1024x512 .f32} {dst : Memref sig .tc .vmem S1024x512 .f32} {n : DmaSem sig}
    (hsrc : src = keepSrc c) (hdst : dst = keepDst c) (hn : n = keepS)
    {hs : src.view.WordExact} {hd : dst.view.WordExact} {ht : DmaTarget.Typed (nD := nD) .hbm (.dma n) (.here (p := (Proc.tc : Proc τ)) dst)}
    {k : PUnit → Prog (TpuEff nD τ sig (Elt F) Λ₀ .tc) PUnit} {Q : PUnit → sProp 𝕄} (fd : Buf (Elt F) ((c : Thread nD τ).loc cc0_stg0_0)) :
    iprop(records m K ∗ keepSrcPts m c ∗ keepDstPts c fd ∗ dutyTok ER (dmaCell c keepS) 0 ())
      ⊢ iprop((cred (tallyAt (dmaCell c keepS) () (amt (.dma keepS))) -∗ exec c (k ⟨⟩) Q)
          -∗ exec c (.op (.enqueueDma src (.here (p := (Proc.tc : Proc τ)) dst) (.dma n) hs hd ht) k) Q) := by
  subst hsrc hdst hn
  unfold keepSrcPts keepDstPts
  iintro ⟨#HR, Hs, Hd, Ht⟩ Hk
  ihave HI := (records_dma m K c (j := keepS) (by decide)) $$ HR
  icases HI with ⟨#HI, #Hr⟩
  iapply (Rounds.wp_copy_pointsTo 𝒱₀ ER (sched m) (c : Thread nD τ) none (κ := K (c, keepS)) (fd := fd) (duty_mem m (dmaCell c keepS)) () (amt (.dma keepS))
      ((View.amount_dma _ _).trans (keep_credit c)) rfl
      (by
        show _ ⊢ iprop(keepDstPts c (outAt m c) ∗ keepSrcPts m c)
        refine BI.sep_mono ?_ (BI.Entails.refl _)
        exact Entails.of_eq (pointsTo_congr (lands_keep m c fd)))) $$ [Hs Hd Ht]
  · isplitr; · iexact HI
    isplitl [Hs]; · iexact Hs
    isplitl [Hd]; · iexact Hd
    isplitl [Ht]; · iexact Ht
    iexact Hr
  iexact Hk

/-- The copy of chunk `q` into the staging scratch. -/
theorem step_stage (c : Dev nD) (q : Fin 4) {src : Memref sig .tc .hbm S256x512 .f32} {dst : Memref sig .tc .vmem S256x512 .f32} {n : DmaSem sig}
    (hsrc : src = giveSrc c q) (hdst : dst = stage q) (hn : n = stageS q)
    {hs : src.view.WordExact} {hd : dst.view.WordExact} {ht : DmaTarget.Typed (nD := nD) .hbm (.dma n) (.here (p := (Proc.tc : Proc τ)) dst)}
    {k : PUnit → Prog (TpuEff nD τ sig (Elt F) Λ₀ .tc) PUnit} {Q : PUnit → sProp 𝕄} (fd : Buf (Elt F) ((c : Thread nD τ).loc cc0_scratch0)) :
    iprop(records m K ∗ giveSrcPts m c q ∗ stagePts c q fd ∗ dutyTok ER (dmaCell c (stageS q)) 0 ())
      ⊢ iprop((cred (tallyAt (dmaCell c (stageS q)) () (amt (.dma (stageS q)))) -∗ exec c (k ⟨⟩) Q)
          -∗ exec c (.op (.enqueueDma src (.here (p := (Proc.tc : Proc τ)) dst) (.dma n) hs hd ht) k) Q) := by
  subst hsrc hdst hn
  unfold giveSrcPts stagePts
  iintro ⟨#HR, Hs, Hd, Ht⟩ Hk
  ihave HI := (records_dma m K c (j := stageS q) (Fin.ne_of_val_ne (by show 9 + q.val ≠ 0; omega))) $$ HR
  icases HI with ⟨#HI, #Hr⟩
  iapply (Rounds.wp_copy_pointsTo 𝒱₀ ER (sched m) (c : Thread nD τ) none (κ := K (c, stageS q)) (fd := fd) (duty_mem m (dmaCell c (stageS q))) ()
      (amt (.dma (stageS q))) ((View.amount_dma _ _).trans ((stage_credit q).trans (amt_stage q).symm)) rfl
      (by
        show _ ⊢ pay m c (.dma (stageS q))
        rw [pay_stage]
        unfold stagePay stagePts giveSrcPts
        refine BI.sep_mono ?_ (BI.Entails.refl _)
        exact Entails.of_eq (pointsTo_congr (lands_stage m c q fd)))) $$ [Hs Hd Ht]
  · isplitr; · iexact HI
    isplitl [Hs]; · iexact Hs
    isplitl [Hd]; · iexact Hd
    isplitl [Ht]; · iexact Ht
    iexact Hr
  iexact Hk

/-- The transfer of chunk `q` from the scratch to the peer's result, which pays what this device owes for the chunk. -/
theorem step_send (c p : Dev nD) (q : Fin 4) (ks : List (Fin 4)) {src : Memref sig .tc .vmem S256x512 .f32} {n n' : DmaSem sig}
    (hp : p = peer c) {dst : Memref sig (Dev.tc p : Thread nD τ).2.kind .vmem S256x512 .f32}
    (hsrc : src = stage q) (hdst : dst = giveDst c q) (hn : n = sendS q) (hn' : n' = recvS q)
    {hsc : dst.view.ref.isScScratch = false} {hs : src.view.WordExact} {hd : dst.view.WordExact}
    {ht : DmaTarget.Typed .vmem (.dma n') (.remote (Dev.tc p : Thread nD τ) dst (.dma n) hsc)}
    {k : PUnit → Prog (TpuEff nD τ sig (Elt F) Λ₀ .tc) PUnit} {Q : PUnit → sProp 𝕄} (fd : Buf (Elt F) ((peer c : Thread nD τ).loc cc0_stg0_0)) :
    iprop(records m K ∗ stagePts c q (stgAt m c) ∗ landPts c (peer c) q fd ∗ debt c (due c (q :: ks))
        ∗ dutyTok ER (dmaCell c (sendS q)) 0 () ∗ dutyTok ER (recvCell (peer c) q) 0 ())
      ⊢ iprop(((cred (tallyAt (dmaCell c (sendS q)) () (amt (.dma (sendS q)))) ∗ debt c (due c ks)) -∗ exec c (k ⟨⟩) Q)
          -∗ exec c (.op (.enqueueDma src (.remote (Dev.tc p : Thread nD τ) dst (.dma n) hsc) (.dma n') hs hd ht) k) Q) := by
  subst hp hsrc hdst hn hn'
  unfold debt stagePts landPts
  iintro ⟨#HR, Hs, Hd, ⟨%W, HO⟩, Ht, Ht'⟩ Hk
  ihave HI := (records_dma m K c (j := sendS q) (Fin.ne_of_val_ne (by show 1 + q.val ≠ 0; omega))) $$ HR
  icases HI with ⟨#HI, #Hr⟩
  ihave HI' := (records_dma m K (peer c) (j := recvS q) (Fin.ne_of_val_ne (by show 5 + q.val ≠ 0; omega))) $$ HR
  icases HI' with ⟨#HI', #Hr'⟩
  rw [amt_send]
  iapply (Rounds.wp_send_pointsTo 𝒱₀ ER (sched m) (c : Thread nD τ) none (κ₁ := K (c, sendS q)) (κ₂ := K (peer c, recvS q))
      (r₁ := 0) (r₂ := 0) (d₁ := ()) (d₂ := ()) (fd := fd)
      (duty_mem m (dmaCell c (sendS q))) (duty_mem m (recvCell (peer c) q)) () () N
      ((View.amount_dma _ _).trans (give_credit c q)) (amt_send q) (amt_recv q) (due c ks) rfl (W := W)
      (by show _ ⊢ pay m c (.dma (sendS q)); rw [pay_send]; exact BI.Entails.refl _)
      (by
        show _ ⊢ pay m (peer c) (.dma (recvS q))
        rw [pay_recv]
        unfold recvPay landPts
        rw [peer_peer]
        exact Entails.of_eq (pointsTo_congr (lands_give m c q fd)))) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- Past their rounds, all of a device's semaphores close, and their counters are zero. -/
theorem close_all (c : Dev nD) :
    iprop(records m K ∗ bigSep Finset.univ fun j => atPos ER (kcell (c, j)) 1 ∅ 0)
      ⊢ iprop(|={Set.univ}=> bigSep Finset.univ fun j => semVal (kcell (c, j)) 0 : sProp 𝕄) := by
  refine (bigSep_with_persistent (Ψ := fun j => iprop(|={Set.univ}=> semVal (kcell (c, j)) 0)) fun j _ => ?_).trans (bigSep_fupd Finset.univ fun j => semVal (kcell (c, j)) 0)
  iintro ⟨#HR, Ha⟩
  ihave HI := (records_at m K (c, j)) $$ HR
  icases HI with ⟨#HI, -⟩
  iapply (Rounds.cell_close ER (sched m) (Set.mem_univ (K (c, j))) (fun h => h) (R := 0 + 1) (duties_later m (kcell (c, j))))
  isplitr; · iexact HI
  iexact Ha

end

end Cert.KernelIdeal.Swap

end
-- ==== Proof.KernelIdeal.Body.lean ====
/-
The kernel's body on a device, executed symbolically: from the device's positions and duty tokens of the protocol, the
credit of what its peer owes it, `x`, the scratch and the result's staging buffer, to `x` unchanged, the result filled
with its final contents and every semaphore back at zero.
-/
module

public import proofs.«01_k».proof.Proof.KernelIdeal.Steps
public import Idealize.ShloMosaic.Lib.Pipeline.BigSepL

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families over the fourteen semaphores -/

omit [FloatOps F] in
theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- A family over the fourteen semaphores, by what they are for. -/
theorem byRole (Φ : Fin 14 → sProp 𝕄) :
    bigSep Finset.univ Φ = iprop(Φ 0 ∗ (bigSep Finset.univ fun k => Φ (sendS k)) ∗ (bigSep Finset.univ fun k => Φ (recvS k))
      ∗ (bigSep Finset.univ fun k => Φ (stageS k)) ∗ Φ keepS) := by
  have h4 (Ψ : Fin 4 → sProp 𝕄) : bigSep Finset.univ Ψ = bigSepL (List.finRange 4) Ψ :=
    bigSep_univ_eq_bigSepL _ (by decide) (by decide) Ψ
  rw [h4, h4, h4, bigSep_univ_eq_bigSepL ([0] ++ ((List.finRange 4).map sendS ++ ((List.finRange 4).map recvS ++ ((List.finRange 4).map stageS ++ [keepS]))))
    (by decide) (by decide) Φ]
  rw [bigSepL_append, bigSepL_append, bigSepL_append, bigSepL_append, bigSepL_map, bigSepL_map, bigSepL_map, bigSepL_singleton, bigSepL_singleton]

omit [FloatOps F] in
theorem barPay_eq (c : Dev nD) :
    (barPay c : sProp 𝕄) = iprop((∃ f, landPts c (peer c) 0 f) ∗ (∃ f, landPts c (peer c) 1 f) ∗ (∃ f, landPts c (peer c) 2 f) ∗ ∃ f, landPts c (peer c) 3 f) :=
  fin4 _

/-- Who pays the duty of a semaphore of device `c`'s, as who is paid by `c`: the peer, for the barrier and the receive
    semaphores; itself, for the others. -/
def across (j : Fin 14) : Prop := j.val = 0 ∨ (5 ≤ j.val ∧ j.val < 9)
instance (j : Fin 14) : Decidable (across j) := by unfold across; infer_instance

def payee (cj : Dev nD × Fin 14) : Dev nD × Fin 14 := (if across cj.2 then peer cj.1 else cj.1, cj.2)

theorem payee_payee (cj : Dev nD × Fin 14) : payee (payee cj) = cj := by
  obtain ⟨c, j⟩ := cj
  by_cases h : across j
  · simp only [payee, if_pos h, peer_peer]
  · simp only [payee, if_neg h]

/-- Device `c`'s place in the rounds of its own semaphores, -/
def positions (c : Dev nD) (r : ℕ) : sProp 𝕄 := bigSep Finset.univ fun j => atPos ER (kcell (c, j)) r ∅ 0
/-- and the duty tokens it pays with. -/
def tokens (c : Dev nD) : sProp 𝕄 := bigSep Finset.univ fun j => dutyTok ER (kcell (payee (c, j))) 0 ()

omit [FloatOps F] in
theorem positions_eq (c : Dev nD) (r : ℕ) :
    (positions c r : sProp 𝕄) = iprop(atPos ER (barCell c) r ∅ 0 ∗ (bigSep Finset.univ fun k => atPos ER (dmaCell c (sendS k)) r ∅ 0)
      ∗ (bigSep Finset.univ fun k => atPos ER (dmaCell c (recvS k)) r ∅ 0) ∗ (bigSep Finset.univ fun k => atPos ER (dmaCell c (stageS k)) r ∅ 0)
      ∗ atPos ER (dmaCell c keepS) r ∅ 0) := by
  unfold positions
  rw [byRole, fin4, fin4, fin4, fin4, fin4, fin4]
  rfl

omit [FloatOps F] in
theorem tokens_eq (c : Dev nD) :
    (tokens c : sProp 𝕄) = iprop(dutyTok ER (barCell (peer c)) 0 () ∗ (bigSep Finset.univ fun k => dutyTok ER (dmaCell c (sendS k)) 0 ())
      ∗ (bigSep Finset.univ fun k => dutyTok ER (recvCell (peer c) k) 0 ()) ∗ (bigSep Finset.univ fun k => dutyTok ER (dmaCell c (stageS k)) 0 ())
      ∗ dutyTok ER (dmaCell c keepS) 0 ()) := by
  unfold tokens
  rw [byRole, fin4, fin4, fin4, fin4, fin4, fin4]
  rfl

/-! ## The pipeline's proof data -/

abbrev xPts (c : Dev nD) : sProp 𝕄 := ((c : Thread nD τ).loc main_arg0) ↦{fullShare} xin m c

/-- What device `c`'s body starts from, besides its buffers of the launch. -/
def start (c : Dev nD) : sProp 𝕄 :=
  iprop((∃ K, records m K) ∗ positions c 0 ∗ tokens c ∗ cred (tallyAt (barCell c) () 1)
    ∗ (bigSep Finset.univ fun k => cred (tallyAt (recvCell c k) () N)) ∗ levAts L lv ∗ xPts m c)

def Φ₀ (c : Dev nD) : sProp 𝕄 := iprop(start m c ∗ ∃ f, ((c : Thread nD τ).loc cc0_scratch0) ↦{fullShare} f)
/-- What it ends with: `x`, every semaphore at zero, the scratch. -/
def Φ₁ (c : Dev nD) : sProp 𝕄 :=
  iprop(xPts m c ∗ (bigSep Finset.univ fun j => semVal (kcell (c, j)) 0) ∗ ((c : Thread nD τ).loc cc0_scratch0) ↦{fullShare} stgAt m c)

def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem N_eq : cfg0.N = 1 := by decide
def t₀ : Fin cfg0.N := ⟨0, by rw [N_eq]; decide⟩
theorem fin_N (t : Fin cfg0.N) : t = t₀ := by
  obtain ⟨t, ht⟩ := t; have := N_eq; exact Fin.ext (by simp only [t₀]; omega)

omit [FloatOps F] in
theorem bigSep_W (Φ : Fin cfg0.W → sProp 𝕄) : bigSep Finset.univ Φ = Φ (0 : Fin 1) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

theorem stage_eq0 : sM.slice (Rect.unit (s := S1024x512) ![0, 0] S256x512.size inb_S1024x512_S256x512_0_0) (fun _ => rfl) = stage 0 :=
  Memref.slice_unit_congr _ rfl _ _ (fun _ => rfl) (fun _ => rfl)
theorem stage_eq1 : sM.slice (Rect.unit (s := S1024x512) ![256, 0] S256x512.size inb_S1024x512_S256x512_256_0) (fun _ => rfl) = stage 1 :=
  Memref.slice_unit_congr _ rfl _ _ (fun _ => rfl) (fun _ => rfl)
theorem stage_eq2 : sM.slice (Rect.unit (s := S1024x512) ![512, 0] S256x512.size inb_S1024x512_S256x512_512_0) (fun _ => rfl) = stage 2 :=
  Memref.slice_unit_congr _ rfl _ _ (fun _ => rfl) (fun _ => rfl)
theorem stage_eq3 : sM.slice (Rect.unit (s := S1024x512) ![768, 0] S256x512.size inb_S1024x512_S256x512_768_0) (fun _ => rfl) = stage 3 :=
  Memref.slice_unit_congr _ rfl _ _ (fun _ => rfl) (fun _ => rfl)

abbrev outStg (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

def bodyPre (c : Dev nD) : sProp 𝕄 :=
  iprop(Φ₀ m c ∗ (dats m 0 c).owesAt () t₀.castSucc ∗ (∃ d, outStg c ((dats m 0 c).before (0 : Fin 1) t₀ d)))
def bodyPost (c : Dev nD) : sProp 𝕄 :=
  iprop(Φ₁ m c ∗ (dats m 0 c).owesAt () t₀.succ ∗ outStg c (outAt m c))

omit [FloatOps F] in
theorem mayWait_none (c : Dev nD) (s : SemLoc sig) : (levAts L lv : sProp 𝕄) ⊢ MayWait (c : Thread nD τ) s () (due c []) := by
  show _ ⊢ MayWait (c : Thread nD τ) s () 0
  rw [MayWait_zero]; iintro -; iempintro

omit [FloatOps F] in
theorem stage_lv (c : Dev nD) (q : Fin 4) : lv ((c : Thread nD τ), .dma (stageS q)) () ≤ 1 := by
  show (if 5 ≤ (stageS q).val ∧ (stageS q).val < 9 then 2 else 0) ≤ 1
  rw [if_neg (fun h => by have : 9 + q.val < 9 := h.2; omega)]
  exact Nat.zero_le 1

/-- Chunk `q` passes through the scratch: the wait for its copy in, and its transfer out. -/
theorem step_pass (K : Dev nD × Fin 14 → ℕ) (c p : Dev nD) (q : Fin 4) (ks : List (Fin 4)) {n₀ n n' : DmaSem sig} (hn₀ : n₀ = stageS q)
    {sp : Space} {s : Shape} {e : EltTy} {src₀ : Memref sig .tc sp s e} {dst₀ : Memref sig .tc .vmem S256x512 .f32}
    {hs₀ : src₀.view.WordExact} {hd₀ : dst₀.view.WordExact} (hdst₀ : dst₀ = stage q)
    {src : Memref sig .tc .vmem S256x512 .f32} (hp : p = peer c) {dst : Memref sig (Dev.tc p : Thread nD τ).2.kind .vmem S256x512 .f32}
    (hsrc : src = stage q) (hdst : dst = giveDst c q) (hn : n = sendS q) (hn' : n' = recvS q)
    {hsc : dst.view.ref.isScScratch = false} {hs : src.view.WordExact} {hd : dst.view.WordExact}
    {ht : DmaTarget.Typed .vmem (.dma n') (.remote (Dev.tc p : Thread nD τ) dst (.dma n) hsc)}
    {k : PUnit → Prog (TpuEff nD τ sig (Elt F) Λ₀ .tc) PUnit} {Q : PUnit → sProp 𝕄} (fd : Buf (Elt F) ((peer c : Thread nD τ).loc cc0_stg0_0)) :
    iprop(records m K ∗ levAts L lv ∗ cred (tallyAt (dmaCell c (stageS q)) () (amt (.dma (stageS q)))) ∗ debt c (due c (q :: ks))
        ∗ atPos ER (dmaCell c (stageS q)) 0 ∅ 0 ∗ landPts c (peer c) q fd
        ∗ dutyTok ER (dmaCell c (sendS q)) 0 () ∗ dutyTok ER (recvCell (peer c) q) 0 ())
      ⊢ iprop(((cred (tallyAt (dmaCell c (sendS q)) () (amt (.dma (sendS q)))) ∗ debt c (due c ks)
              ∗ atPos ER (dmaCell c (stageS q)) 1 ∅ 0 ∗ giveSrcPts m c q) -∗ exec c (k ⟨⟩) Q)
          -∗ exec c (.op (.waitDma2 n₀ src₀ dst₀ hs₀ hd₀) fun _ =>
              .op (.enqueueDma src (.remote (Dev.tc p : Thread nD τ) dst (.dma n) hsc) (.dma n') hs hd ht) k) Q) := by
  iintro ⟨#HR, #Hl, Hc, HO, Ha, Hd, Ht, Ht'⟩ Hk
  iapply (step_wait m K c (src := src₀) (dst := dst₀) (hs := hs₀) (hd := hd₀) (stageS q) (Fin.ne_of_val_ne (by show 9 + q.val ≠ 0; omega)) hn₀ (due c (q :: ks)) (mayWait_due c _ _ (stage_lv c q))
    (by rw [hdst₀]; exact (stage_credit q).trans (amt_stage q).symm)) $$ [Hc HO Ha]
  · isplitr; · iexact HR
    isplitr; · iexact Hl
    isplitl [Hc]; · iexact Hc
    isplitl [HO] <;> iassumption
  iintro ⟨HO, Ha, Hp⟩
  ihave Hp := (Entails.of_eq ((pay_stage m c q).trans (show stagePay m c q = iprop(stagePts c q (stgAt m c) ∗ giveSrcPts m c q) from rfl))) $$ Hp
  icases Hp with ⟨Hs, Hx⟩
  iapply (step_send m K c p q ks hp hsrc hdst hn hn' fd) $$ [Hs Hd HO Ht Ht']
  · isplitr; · iexact HR
    isplitl [Hs]; · iexact Hs
    isplitl [Hd]; · iexact Hd
    isplitl [HO]; · iexact HO
    isplitl [Ht] <;> iassumption
  iintro ⟨Hc, HO⟩
  iapply Hk
  isplitl [Hc]; · iexact Hc
  isplitl [HO]; · iexact HO
  isplitl [Ha] <;> iassumption

/-- The wait for the local copy of the kept half. -/
theorem step_kept (K : Dev nD × Fin 14 → ℕ) (c : Dev nD) {n : DmaSem sig} (hn : n = keepS)
    {sp : Space} {s : Shape} {e : EltTy} {src : Memref sig .tc sp s e} {dst : Memref sig .tc .vmem S1024x512 .f32}
    {hs : src.view.WordExact} {hd : dst.view.WordExact} (hdst : dst = keepDst c)
    {k : PUnit → Prog (TpuEff nD τ sig (Elt F) Λ₀ .tc) PUnit} {Q : PUnit → sProp 𝕄} :
    iprop(records m K ∗ levAts L lv ∗ cred (tallyAt (dmaCell c keepS) () (amt (.dma keepS))) ∗ debt c (due c []) ∗ atPos ER (dmaCell c keepS) 0 ∅ 0)
      ⊢ iprop(((debt c (due c []) ∗ atPos ER (dmaCell c keepS) 1 ∅ 0 ∗ keepDstPts c (outAt m c) ∗ keepSrcPts m c) -∗ exec c (k ⟨⟩) Q)
          -∗ exec c (.op (.waitDma2 n src dst hs hd) k) Q) :=
  step_wait m K c (src := src) (dst := dst) (hs := hs) (hd := hd) keepS (by decide) hn (due c []) (mayWait_none c _) (by rw [hdst]; exact keep_credit c)

/-- Chunk `q` is done with: the wait until its transfer out has read it, and the wait until the peer's has landed. -/
theorem step_done (K : Dev nD × Fin 14 → ℕ) (c : Dev nD) (q : Fin 4) {n n' : DmaSem sig} (hn : n = sendS q) (hn' : n' = recvS q)
    {sp sp' : Space} {s s' : Shape} {e e' : EltTy} {src : Memref sig .tc sp s e} {dst : Memref sig .tc .vmem S256x512 .f32}
    {src' : Memref sig .tc sp' s' e'} {dst' : Memref sig .tc .vmem S256x512 .f32}
    {hs : src.view.WordExact} {hd : dst.view.WordExact} {hs' : src'.view.WordExact} {hd' : dst'.view.WordExact}
    (hdst : dst = stage q) (hdst' : dst' = giveDst c q)
    {k : PUnit → Prog (TpuEff nD τ sig (Elt F) Λ₀ .tc) PUnit} {Q : PUnit → sProp 𝕄} :
    iprop(records m K ∗ levAts L lv ∗ cred (tallyAt (dmaCell c (sendS q)) () (amt (.dma (sendS q)))) ∗ cred (tallyAt (recvCell c q) () N)
        ∗ debt c (due c []) ∗ atPos ER (dmaCell c (sendS q)) 0 ∅ 0 ∗ atPos ER (dmaCell c (recvS q)) 0 ∅ 0)
      ⊢ iprop(((debt c (due c []) ∗ atPos ER (dmaCell c (sendS q)) 1 ∅ 0 ∗ atPos ER (dmaCell c (recvS q)) 1 ∅ 0
              ∗ stagePts c q (stgAt m c) ∗ landPts (peer c) c q (outAt m c)) -∗ exec c (k ⟨⟩) Q)
          -∗ exec c (.op (.waitDma2 n src dst hs hd) fun _ => .op (.waitDma2 n' src' dst' hs' hd') k) Q) := by
  iintro ⟨#HR, #Hl, Hc, Hc', HO, Ha, Ha'⟩ Hk
  iapply (step_wait m K c (src := src) (dst := dst) (hs := hs) (hd := hd) (sendS q) (Fin.ne_of_val_ne (by show 1 + q.val ≠ 0; omega)) hn (due c []) (mayWait_none c _)
    (by rw [hdst]; exact (stage_credit q).trans (amt_send q).symm)) $$ [Hc HO Ha]
  · isplitr; · iexact HR
    isplitr; · iexact Hl
    isplitl [Hc]; · iexact Hc
    isplitl [HO] <;> iassumption
  iintro ⟨HO, Ha, Hp⟩
  iapply (step_wait m K c (src := src') (dst := dst') (hs := hs') (hd := hd') (recvS q) (Fin.ne_of_val_ne (by show 5 + q.val ≠ 0; omega)) hn' (due c []) (mayWait_none c _)
    (by rw [hdst']; exact (give_credit c q).trans (amt_recv q).symm)) $$ [Hc' HO Ha']
  · isplitr; · iexact HR
    isplitr; · iexact Hl
    isplitl [Hc']; · rw [amt_recv]; iexact Hc'
    isplitl [HO] <;> iassumption
  iintro ⟨HO, Ha', Hp'⟩
  ihave Hp := (Entails.of_eq ((pay_send m c q).trans (show sendPay m c q = stagePts c q (stgAt m c) from rfl))) $$ Hp
  ihave Hp' := (Entails.of_eq ((pay_recv m c q).trans (show recvPay m c q = landPts (peer c) c q (outAt m c) from rfl))) $$ Hp'
  iapply Hk
  isplitl [HO]; · iexact HO
  isplitl [Ha]; · iexact Ha
  isplitl [Ha']; · iexact Ha'
  isplitl [Hp] <;> iassumption

set_option maxHeartbeats 1600000 in
/-- The body from `bodyPre` to `bodyPost`, one step per effect in program order. -/
theorem sound_body (c : Dev nD) (Kt : PUnit → sProp 𝕄) :
    iprop(bodyPre m c ∗ (bodyPost m c -∗ Kt ⟨⟩))
      ⊢ exec c (cc0_body xM (Memref.isWhole_whole _) oM (Memref.isWhole_whole _) sM (Memref.isWhole_whole _)
          cc0_scratch1 cc0_scratch2 cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre Φ₀ start
  simp only [positions_eq, tokens_eq, fin4, cut_x, cut_stage]
  iintro ⟨⟨⟨⟨⟨%K, #HR⟩, ⟨HaB, ⟨HaS0, HaS1, HaS2, HaS3⟩, ⟨HaV0, HaV1, HaV2, HaV3⟩, ⟨HaG0, HaG1, HaG2, HaG3⟩, HaK⟩,
      ⟨HtB, ⟨HtS0, HtS1, HtS2, HtS3⟩, ⟨HtV0, HtV1, HtV2, HtV3⟩, ⟨HtG0, HtG1, HtG2, HtG3⟩, HtK⟩, HcB, ⟨HcV0, HcV1, HcV2, HcV3⟩, #Hl,
      ⟨HxK, Hx0, Hx1, Hx2, Hx3⟩⟩, ⟨%fs, Hs0, Hs1, Hs2, Hs3⟩⟩, Ho, ⟨%d0, %g0, %hg0, Hout⟩⟩, Hk⟩
  unfold Dat.owesAt Pipeline.owesWithin
  icases Ho with ⟨%W, %hW, HO⟩
  ihave HO := (show owes (c : Thread nD τ) ((dats m 0 c).owed t₀.castSucc) W ⊢ debt c (O₀ c) from by
    unfold debt; iintro H; iexists W; iexact H) $$ HO
  ihave Hout := (Entails.of_eq ((cut_out c g0).trans (by rw [fin4]))) $$ Hout
  icases Hout with ⟨HoK, Ho0, Ho1, Ho2, Ho3⟩
  iapply (step_signal m K c _ (dev1_eq c) (by decide)) $$ [HO HtB Ho0 Ho1 Ho2 Ho3]
  · isplitr; · iexact HR
    isplitl [HO]; · iexact HO
    isplitl [HtB]; · iexact HtB
    unfold barPay
    rw [fin4, peer_peer]
    isplitl [Ho0]; · iexists g0; iexact Ho0
    isplitl [Ho1]; · iexists g0; iexact Ho1
    isplitl [Ho2]; · iexists g0; iexact Ho2
    iexists g0; iexact Ho3
  iintro HO
  iapply (step_keep m K c (keepSrc_eq c) (keepDst_eq c) rfl g0) $$ [HxK HoK HtK]
  · isplitr; · iexact HR
    isplitl [HxK]; · iexact HxK
    isplitl [HoK] <;> iassumption
  iintro HcK
  iapply (step_stage m K c 0 (giveSrc_eq0 c) stage_eq0 rfl fs) $$ [Hx0 Hs0 HtG0]
  · isplitr; · iexact HR
    isplitl [Hx0]; · iexact Hx0
    isplitl [Hs0] <;> iassumption
  iintro HcG0
  iapply (step_stage m K c 1 (giveSrc_eq1 c) stage_eq1 rfl fs) $$ [Hx1 Hs1 HtG1]
  · isplitr; · iexact HR
    isplitl [Hx1]; · iexact Hx1
    isplitl [Hs1] <;> iassumption
  iintro HcG1
  iapply (step_stage m K c 2 (giveSrc_eq2 c) stage_eq2 rfl fs) $$ [Hx2 Hs2 HtG2]
  · isplitr; · iexact HR
    isplitl [Hx2]; · iexact Hx2
    isplitl [Hs2] <;> iassumption
  iintro HcG2
  iapply (step_stage m K c 3 (giveSrc_eq3 c) stage_eq3 rfl fs) $$ [Hx3 Hs3 HtG3]
  · isplitr; · iexact HR
    isplitl [Hx3]; · iexact Hx3
    isplitl [Hs3] <;> iassumption
  iintro HcG3
  iapply (step_barrier m K c (by decide)) $$ [HcB HO HaB]
  · isplitr; · iexact HR
    isplitr; · iexact Hl
    isplitl [HcB]; · iexact HcB
    isplitl [HO] <;> iassumption
  iintro ⟨HO, HaB, Hp⟩
  ihave Hp := (Entails.of_eq (barPay_eq c)) $$ Hp
  icases Hp with ⟨⟨%h0, Hl0⟩, ⟨%h1, Hl1⟩, ⟨%h2, Hl2⟩, ⟨%h3, Hl3⟩⟩
  iapply (step_pass m K c _ 0 [1, 2, 3] rfl stage_eq0 (dev2_eq c) stage_eq0 (giveDst_eq c 0) rfl rfl h0) $$ [HcG0 HO HaG0 Hl0 HtS0 HtV0]
  · isplitr; · iexact HR
    isplitr; · iexact Hl
    isplitl [HcG0]; · iexact HcG0
    isplitl [HO]; · iexact HO
    isplitl [HaG0]; · iexact HaG0
    isplitl [Hl0]; · iexact Hl0
    isplitl [HtS0] <;> iassumption
  iintro ⟨HcS0, HO, HaG0, Hx0⟩
  iapply (step_pass m K c _ 1 [2, 3] rfl stage_eq1 (dev3_eq c) stage_eq1 (giveDst_eq c 1) rfl rfl h1) $$ [HcG1 HO HaG1 Hl1 HtS1 HtV1]
  · isplitr; · iexact HR
    isplitr; · iexact Hl
    isplitl [HcG1]; · iexact HcG1
    isplitl [HO]; · iexact HO
    isplitl [HaG1]; · iexact HaG1
    isplitl [Hl1]; · iexact Hl1
    isplitl [HtS1] <;> iassumption
  iintro ⟨HcS1, HO, HaG1, Hx1⟩
  iapply (step_pass m K c _ 2 [3] rfl stage_eq2 (dev4_eq c) stage_eq2 (giveDst_eq c 2) rfl rfl h2) $$ [HcG2 HO HaG2 Hl2 HtS2 HtV2]
  · isplitr; · iexact HR
    isplitr; · iexact Hl
    isplitl [HcG2]; · iexact HcG2
    isplitl [HO]; · iexact HO
    isplitl [HaG2]; · iexact HaG2
    isplitl [Hl2]; · iexact Hl2
    isplitl [HtS2] <;> iassumption
  iintro ⟨HcS2, HO, HaG2, Hx2⟩
  iapply (step_pass m K c _ 3 [] rfl stage_eq3 (dev5_eq c) stage_eq3 (giveDst_eq c 3) rfl rfl h3) $$ [HcG3 HO HaG3 Hl3 HtS3 HtV3]
  · isplitr; · iexact HR
    isplitr; · iexact Hl
    isplitl [HcG3]; · iexact HcG3
    isplitl [HO]; · iexact HO
    isplitl [HaG3]; · iexact HaG3
    isplitl [Hl3]; · iexact Hl3
    isplitl [HtS3] <;> iassumption
  iintro ⟨HcS3, HO, HaG3, Hx3⟩
  iapply (step_kept m K c rfl (keepDst_eq c)) $$ [HcK HO HaK]
  · isplitr; · iexact HR
    isplitr; · iexact Hl
    isplitl [HcK]; · iexact HcK
    isplitl [HO] <;> iassumption
  iintro ⟨HO, HaK, HoK, HxK⟩
  iapply (step_done m K c 0 rfl rfl stage_eq0 (giveDst_eq c 0)) $$ [HcS0 HcV0 HO HaS0 HaV0]
  · isplitr; · iexact HR
    isplitr; · iexact Hl
    isplitl [HcS0]; · iexact HcS0
    isplitl [HcV0]; · iexact HcV0
    isplitl [HO]; · iexact HO
    isplitl [HaS0] <;> iassumption
  iintro ⟨HO, HaS0, HaV0, Hs0, Ho0⟩
  iapply (step_done m K c 1 rfl rfl stage_eq1 (giveDst_eq c 1)) $$ [HcS1 HcV1 HO HaS1 HaV1]
  · isplitr; · iexact HR
    isplitr; · iexact Hl
    isplitl [HcS1]; · iexact HcS1
    isplitl [HcV1]; · iexact HcV1
    isplitl [HO]; · iexact HO
    isplitl [HaS1] <;> iassumption
  iintro ⟨HO, HaS1, HaV1, Hs1, Ho1⟩
  iapply (step_done m K c 2 rfl rfl stage_eq2 (giveDst_eq c 2)) $$ [HcS2 HcV2 HO HaS2 HaV2]
  · isplitr; · iexact HR
    isplitr; · iexact Hl
    isplitl [HcS2]; · iexact HcS2
    isplitl [HcV2]; · iexact HcV2
    isplitl [HO]; · iexact HO
    isplitl [HaS2] <;> iassumption
  iintro ⟨HO, HaS2, HaV2, Hs2, Ho2⟩
  iapply (step_done m K c 3 rfl rfl stage_eq3 (giveDst_eq c 3)) $$ [HcS3 HcV3 HO HaS3 HaV3]
  · isplitr; · iexact HR
    isplitr; · iexact Hl
    isplitl [HcS3]; · iexact HcS3
    isplitl [HcV3]; · iexact HcV3
    isplitl [HO]; · iexact HO
    isplitl [HaS3] <;> iassumption
  iintro ⟨HO, HaS3, HaV3, Hs3, Ho3⟩
  ihave Hat := (Entails.of_eq ((positions_eq c 1).trans (by rw [fin4, fin4, fin4])).symm) $$ [HaB HaS0 HaS1 HaS2 HaS3 HaV0 HaV1 HaV2 HaV3 HaG0 HaG1 HaG2 HaG3 HaK]
  · isplitl [HaB]; · iexact HaB
    isplitl [HaS0 HaS1 HaS2 HaS3]
    · isplitl [HaS0]; · iexact HaS0
      isplitl [HaS1]; · iexact HaS1
      isplitl [HaS2] <;> iassumption
    isplitl [HaV0 HaV1 HaV2 HaV3]
    · isplitl [HaV0]; · iexact HaV0
      isplitl [HaV1]; · iexact HaV1
      isplitl [HaV2] <;> iassumption
    isplitl [HaG0 HaG1 HaG2 HaG3]
    · isplitl [HaG0]; · iexact HaG0
      isplitl [HaG1]; · iexact HaG1
      isplitl [HaG2] <;> iassumption
    iexact HaK
  unfold positions exec
  rw [wp_ret]
  imod (close_all m K c) $$ [Hat] with Hz
  · isplitr; · iexact HR
    iexact Hat
  imodintro
  iapply Hk
  unfold bodyPost Φ₁ Dat.owesAt Pipeline.owesWithin debt
  icases HO with ⟨%W', HO⟩
  isplitl [HxK Hx0 Hx1 Hx2 Hx3 Hz Hs0 Hs1 Hs2 Hs3]
  · isplitl [HxK Hx0 Hx1 Hx2 Hx3]
    · iapply (Entails.of_eq ((cut_x m c).trans (by rw [fin4])).symm)
      isplitl [HxK]; · iexact HxK
      isplitl [Hx0]; · iexact Hx0
      isplitl [Hx1]; · iexact Hx1
      isplitl [Hx2] <;> iassumption
    isplitl [Hz]; · iexact Hz
    iapply (Entails.of_eq ((cut_stage c (stgAt m c)).trans (by rw [fin4])).symm)
    isplitl [Hs0]; · iexact Hs0
    isplitl [Hs1]; · iexact Hs1
    isplitl [Hs2] <;> iassumption
  isplitl [HO]
  · iexists W'
    isplitr; · ipureintro; exact fun _ _ => Or.inl trivial
    iexact HO
  iexists (outAt m c)
  isplitr; · (ipureintro; rfl)
  iapply (Entails.of_eq ((cut_out c (outAt m c)).trans (by rw [fin4])).symm)
  isplitl [HoK]; · iexact HoK
  isplitl [Ho0]; · iexact Ho0
  isplitl [Ho1]; · iexact Ho1
  isplitl [Ho2] <;> iassumption

/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre m c ⊢ exec c (cc0_body xM (Memref.isWhole_whole _) oM (Memref.isWhole_whole _) sM (Memref.isWhole_whole _)
          cc0_scratch1 cc0_scratch2 cc0_scratch3 cc0_scratch4) (fun _ => bodyPost m c)
  iintro H
  iapply (sound_body m c fun _ => bodyPost m c)
  isplitl [H]; · iexact H
  iintro H; iexact H

end Cert.KernelIdeal.Swap

end
-- ==== Proof.KernelIdeal.Run.lean ====
/-
The launch of the kernel on the eight devices, and its run: what the protocol's ghost state starts from, how the duty
tokens are dealt to the devices that pay with them, what each device may claim of its peer at the start, and from
these and the body the run of @main: it ends, with `x` unchanged, every semaphore at zero and each device's result at
the contents `outAt` names.
-/
module

public import proofs.«01_k».proof.Proof.KernelIdeal.Body
public import Idealize.ShloMosaic.Lib.Pipeline.CollectiveSegs
public import Idealize.ShloMosaic.Lib.Pipeline.Value
public import Idealize.ShloMosaic.Lib.Quiescent

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores at launch -/

/-- The kernel's own thirteen semaphores, the DMA ones. -/
abbrev osem (k : Fin 13) : SemLoc sig := csem k.succ

theorem ownSemFacts : Pipeline.OwnSemFacts cfg0.spec osem := by decide

omit [FloatOps F] in
/-- The barrier semaphore is the one that outlives the kernel. -/
theorem lasting_eq (c : Dev nD) : (unscopedSems0 c : sProp 𝕄) = semVal (barCell c) 0 := by
  unfold unscopedSems0
  rw [bigSep_eq_bigSepL_of_eq [SemLoc.reg barS] (by decide) (by decide)]
  exact bigSepL_singleton _ _

omit [FloatOps F] in
/-- Together they are the protocol's fourteen. -/
theorem zeros_eq (c : Dev nD) :
    (bigSep Finset.univ fun j => semVal (kcell (c, j)) 0 : sProp 𝕄)
      = iprop(unscopedSems0 c ∗ Pipeline.ownSems0 (Ix := Unit) (Name := ℕ) (U := UU) (Lvl := ℕ) (Val := Elt F) (τ := τ) osem c) := by
  rw [lasting_eq, Fin.univ_succ, Finset.cons_eq_insert, BI.bigSep_insert (by simp), BI.bigSep_map]
  rfl

/-! ## The ghost state at launch -/

def allCells : Finset (GSem nD τ sig) := Finset.univ.map ⟨kcell, kcell_injective⟩

def tokOf (cj : Dev nD × Fin 14) : GSem nD τ sig × ℕ × Unit := (kcell cj, 0, ())
theorem tokOf_injective : Function.Injective tokOf := fun _ _ h => kcell_injective (congrArg Prod.fst h)
def allToks : Finset (GSem nD τ sig × ℕ × Unit) := Finset.univ.map ⟨tokOf, tokOf_injective⟩

def u₀ : UU := (initOf (Pipeline.cells cfgs cellOf_inj) (Pipeline.launchToks cfgs cellOf_inj), initOf allCells allToks)

/-- What a semaphore starts with, besides its counter. -/
def seed (cj : Dev nD × Fin 14) : sProp 𝕄 :=
  iprop(roundState ER (sched m) (kcell cj) 0 ∗ reached ER (kcell cj) 0 ∗ atPos ER (kcell cj) 0 ∅ 0 ∗ dutyTok ER (kcell cj) 0 ())

def G (c : Dev nD) : sProp 𝕄 := bigSep Finset.univ fun j => seed m (c, j)

/-- What a device starts with, once the invariants stand and the tokens are dealt. -/
def G' (c : Dev nD) : sProp 𝕄 := iprop((∃ K, records m K) ∗ positions c 0 ∗ tokens c)

omit [FloatOps F] in
theorem fund_all : BI.own (ER (initOf allCells allToks)) ⊢ (|==> bigSep Finset.univ (G m) : sProp 𝕄) := by
  refine (Rounds.fund ER (sched m) allCells allToks).trans (Entails.of_eq (congrArg (fun X : sProp 𝕄 => iprop(|==> X)) ?_))
  show _ = bigSep Finset.univ fun c : Dev nD => bigSep Finset.univ fun j : Fin 14 => seed m (c, j)
  rw [← bigSep_univ_prod (fun cj : Dev nD × Fin 14 => seed m cj)]
  unfold seed allCells allToks
  simp only [bigSep_sep', BI.bigSep_map]
  rfl

/-- The semaphores' invariants are set up at once, on all devices. -/
abbrev settled (cj : Dev nD × Fin 14) : sProp 𝕄 :=
  iprop((∃ κ : ℕ, cellInv ER (sched m) κ (kcell cj)) ∗ reached ER (kcell cj) 0 ∗ atPos ER (kcell cj) 0 ∅ 0 ∗ dutyTok ER (kcell cj) 0 ())

omit [FloatOps F] in
theorem settle (cj : Dev nD × Fin 14) : iprop(semVal (kcell cj) 0 ∗ seed m cj) ⊢ (|={Set.univ}=> settled m cj : sProp 𝕄) := by
  unfold seed
  iintro ⟨Hv, Hst, Hr, Ha, Ht⟩
  imod ((Rounds.body_intro ER (sched m) (kcell cj)).trans inv_alloc) $$ [Hv Hst] with HI
  · isplitl [Hv] <;> iassumption
  imodintro
  isplitl [HI]; · iexact HI
  isplitl [Hr]; · iexact Hr
  isplitl [Ha] <;> iassumption

/-- The involution that deals the tokens, as a bijection. -/
def deal : Dev nD × Fin 14 ≃ Dev nD × Fin 14 := ⟨payee, payee, payee_payee, payee_payee⟩

omit [FloatOps F] in
theorem dealt : (bigSep Finset.univ fun cj : Dev nD × Fin 14 => (dutyTok ER (kcell cj) 0 () : sProp 𝕄)) = bigSep Finset.univ fun c : Dev nD => tokens c := by
  rw [bigSep_univ_equiv deal (fun cj : Dev nD × Fin 14 => (dutyTok ER (kcell cj) 0 () : sProp 𝕄)), bigSep_univ_prod]
  rfl

omit [FloatOps F] in
theorem regroup : bigSep Finset.univ (settled m) ⊢ bigSep Finset.univ (G' m) := by
  unfold settled
  rw [bigSep_sep', bigSep_sep', bigSep_sep', dealt, bigSep_univ_prod (fun cj : Dev nD × Fin 14 => (atPos ER (kcell cj) 0 ∅ 0 : sProp 𝕄))]
  iintro ⟨HI, #HR, Ha, Ht⟩
  ihave HK := (BI.bigSep_exists_pi Finset.univ (fun (cj : Dev nD × Fin 14) (κ : ℕ) => (cellInv ER (sched m) κ (kcell cj) : sProp 𝕄))) $$ HI
  icases HK with ⟨%K, #HI⟩
  iapply (bigSep_with_persistent (R := records m K) (Φ := fun c => iprop(positions c 0 ∗ tokens c)) (Ψ := G' m) fun c _ =>
    show _ ⊢ _ from by
      unfold G'
      iintro ⟨#H, Ha, Ht⟩
      isplitr; · (iexists K; iexact H)
      isplitl [Ha] <;> iassumption)
  isplitr
  · unfold records
    isplitr
    · iexact HI
    · iexact HR
  iapply (Entails.of_eq (bigSep_sep' Finset.univ (fun c : Dev nD => positions c 0) tokens).symm)
  isplitl [Ha]
  · iexact Ha
  · iexact Ht

omit [FloatOps F] in
/-- The step the launch takes for all devices together. -/
theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) := by
  have h (c : Dev nD) : iprop(Pipeline.ownSems0 (Ix := Unit) (Name := ℕ) (U := UU) (Lvl := ℕ) (Val := Elt F) (τ := τ) osem c ∗ unscopedSems0 c ∗ G m c)
      ⊢ (bigSep Finset.univ fun j => iprop(semVal (kcell (c, j)) 0 ∗ seed m (c, j)) : sProp 𝕄) := by
    rw [bigSep_sep', zeros_eq]
    unfold G
    iintro ⟨Ho, Hu, HG⟩
    isplitr [HG]
    · isplitl [Hu] <;> iassumption
    · iexact HG
  refine (bigSep_mono fun c _ => h c).trans ?_
  rw [← bigSep_univ_prod (fun cj : Dev nD × Fin 14 => iprop(semVal (kcell cj) 0 ∗ seed m cj))]
  exact ((bigSep_mono fun cj _ => settle m cj).trans (bigSep_fupd Finset.univ (settled m))).trans (BI.fupd_mono (regroup m))

/-! ## The credit at launch -/

theorem peer_inj {c d : Dev nD} (h : peer c = peer d) : c = d := by rw [← peer_peer c, h, peer_peer]

theorem recvCell_inj {c d : Dev nD} {k l : Fin 4} (h : recvCell c k = recvCell d l) : c = d ∧ k = l := by
  have h1 : c = d := congrArg (fun g : GSem nD τ sig => g.1.1) h
  have h2 : SemLoc.dma (recvS k) = (SemLoc.dma (recvS l) : SemLoc sig) := congrArg Prod.snd h
  have h3 : (⟨5 + k.val, by omega⟩ : Fin 14) = ⟨5 + l.val, by omega⟩ := SemLoc.dma.inj h2
  have h4 := congrArg Fin.val h3
  exact ⟨h1, Fin.ext (by dsimp only at h4; omega)⟩

theorem recv_ne_bar (c d : Dev nD) (k : Fin 4) : recvCell c k ≠ barCell d := fun h => by
  have h2 : (SemLoc.dma (recvS k) : SemLoc sig) = SemLoc.reg barS := congrArg Prod.snd h
  cases h2

/-- The chunks of a list that device `d` owes device `c`'s semaphore of chunk `k`. -/
theorem due_at (d c : Dev nD) (k : Fin 4) (l : List (Fin 4)) : due d l (recvCell c k) () = if d = peer c then l.count k * N else 0 := by
  induction l with
  | nil => show 0 = _; simp
  | cons q ks ih =>
    unfold due
    rw [Pi.add_apply, Finsupp.add_apply, tallyAt_apply, ih]
    by_cases h : d = peer c
    · subst h
      rw [if_pos rfl, if_pos rfl, peer_peer]
      by_cases hq : q = k
      · subst hq; rw [if_pos ⟨rfl, rfl⟩, List.count_cons_self, Nat.add_mul, Nat.one_mul]
      · rw [if_neg (fun e => hq (recvCell_inj e.1).2.symm), List.count_cons_of_ne hq, Nat.add_zero]
    · rw [if_neg h, if_neg h, if_neg (fun e => h (by rw [(recvCell_inj e.1).1, peer_peer]))]

theorem owed_recv (d c : Dev nD) (k : Fin 4) : O₀ d (recvCell c k) () = if d = peer c then N else 0 := by
  unfold O₀
  rw [Pi.add_apply, Finsupp.add_apply, tallyAt_apply, if_neg (fun e => recv_ne_bar c (peer d) k e.1), Nat.add_zero, due_at,
    show [(0 : Fin 4), 1, 2, 3].count k = 1 by revert k; decide, Nat.one_mul]

theorem owed_bar (d c : Dev nD) : O₀ d (barCell c) () = if d = peer c then 1 else 0 := by
  unfold O₀
  rw [Pi.add_apply, Finsupp.add_apply, tallyAt_apply,
    show due d [0, 1, 2, 3] (barCell c) () = 0 from Nat.eq_zero_of_not_pos fun h => by
      obtain ⟨k, e⟩ := due_pos h; exact recv_ne_bar _ _ k e.symm, Nat.zero_add]
  by_cases h : d = peer c
  · subst h; rw [peer_peer, if_pos ⟨rfl, rfl⟩, if_pos rfl]
  · rw [if_neg h, if_neg (fun e => h (by rw [show c = peer d from congrArg (fun g : GSem nD τ sig => g.1.1) e.1, peer_peer]))]

/-- A semaphore that the peer alone owes `n` starts with credit `n`. -/
theorem credit_of {g : GSem nD τ sig} {p : Dev nD} {n : ℕ} (h : ∀ d, O₀ d g () = if d = p then n else 0) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ p fun _ => n,
    if_pos (Finset.mem_univ _)]

theorem recvS_injective : Function.Injective fun k : Fin 4 => (SemLoc.dma (recvS k) : SemLoc sig) := by
  intro i j h; revert i j; decide

omit [FloatOps F] in
theorem credits (c : Dev nD) :
    (Pipeline.launchCred O₀ c : sProp 𝕄) ⊢ iprop(cred (tallyAt (barCell c) () 1) ∗ bigSep Finset.univ fun k => cred (tallyAt (recvCell c k) () N)) := by
  unfold Pipeline.launchCred
  rw [bigSep_univ_at _ (SemLoc.reg barS), credit_of fun d => owed_bar d c]
  refine sep_mono_right ((BI.bigSep_subset (t := Finset.univ.map ⟨_, recvS_injective⟩) fun s hs => ?_).trans ?_)
  · obtain ⟨k, -, rfl⟩ := Finset.mem_map.mp hs
    exact Finset.mem_erase.mpr ⟨fun h => recv_ne_bar c c k (congrArg (fun s : SemLoc sig => ((c : Thread nD τ), s)) h), Finset.mem_univ _⟩
  · rw [BI.bigSep_map]
    exact bigSep_mono fun k _ => show _ ⊢ _ from Entails.of_eq (congrArg cred (credit_of fun d => owed_recv d c k))

/-! ## The body's start and end -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨Hx, Hl, Hc, -, HR, Ha, Ht⟩
  ihave Hc := (credits (F := F) c) $$ Hc
  icases Hc with ⟨HcB, HcV⟩
  imodintro
  isplitl
  · unfold start
    isplitl [HR]; · iexact HR
    isplitl [Ha]; · iexact Ha
    isplitl [Ht]; · iexact Ht
    isplitl [HcB]; · iexact HcB
    isplitl [HcV]; · iexact HcV
    isplitl [Hl]; · iexact Hl
    iexact Hx
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

/-- What a device keeps at the end: the barrier's counter and `x`. -/
abbrev kept (c : Dev nD) : sProp 𝕄 := iprop(unscopedSems0 c ∗ xPts m c)

theorem leave (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl, scopedRest0_eq]
  unfold Φ₁
  rw [zeros_eq]
  iintro ⟨Hx, ⟨Hu, Ho⟩, Hs⟩
  isplitl [Hu Hx]
  · isplitl [Hu] <;> iassumption
  isplitl [Ho]; · iexact Ho
  iexists (stgAt m c); iexact Hs

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_start c _ (by fin_cases w; fin_cases s; exact Nat.le_refl 0)
    · exact mayWait_none c _

theorem share_eq (c : Dev nD) (w : Fin cfg0.W) : (dats m 0 c).share w = fullShare := by unfold Dat.share; split <;> rfl

/-- What is read of the final memory on a device, besides its result. -/
def atEnd (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)

omit [FloatOps F] in
theorem read_end (c : Dev nD) (s' : Phys nD τ sig (Elt F)) :
    iprop(kept m c ∗ emp ∗ SI s') ⊢ (|={Set.univ}=> iprop(⌜atEnd m c s'.mem⌝ ∗ SI s') : sProp 𝕄) := by
  iintro ⟨⟨Hu, Hx⟩, -, HSI⟩
  ihave H := (pointsTo_read_all (Finset.univ : Finset Unit) (fun _ => (c : Thread nD τ).loc main_arg0) (fun _ => xin m c) s') $$ [Hx HSI]
  · isplitl [Hx]
    · iapply (Entails.of_eq (bigSep_singleton (i := ()) (Φ := fun _ => xPts m c)).symm)
      iexact Hx
    · iexact HSI
  icases H with ⟨%hx, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, hx () (Finset.mem_univ _)⟩
  · iexact HSI

/-! ## The run -/

/-- The one block of the result's window is its whole array. -/
theorem block_at (i : ((cfg0.win (0 : Fin 1)).xblock (cfg0.grid.coords t₀)).Idx) (a : Fin 2) :
    (((cfg0.win (0 : Fin 1)).rect t₀).emb i a : ℕ) = i a :=
  Pipeline.Window.rect_emb_val_of_index_zero (cfg0.win (0 : Fin 1)) t₀ a rfl i

/-- The result's array ends as the body left the staging buffer. -/
theorem result_eq (c : Dev nD) : (dats m 0 c).arrAt (0 : Fin 1) cfg0.N = outAt m c :=
  (dats m 0 c).arrAt_eq_of_cover (0 : Fin 1) (outAt m c)
    (fun t _ => by
      obtain rfl := fin_N t
      unfold Pipeline.Dat.flushed
      rw [show (dats m 0 c).after (0 : Fin 1) t₀ = outAt m c from rfl]
      funext i
      exact congrArg (outAt m c) (funext fun a => Fin.ext (block_at i a).symm))
    (fun i => ⟨t₀, by decide, by
      refine Finset.mem_map.mpr ⟨i, Finset.mem_univ _, ?_⟩
      exact funext fun a => Fin.ext (block_at i a)⟩)

/-- Every device's result at its final contents, `x` unchanged, and every semaphore at zero. -/
def Done (r : PUnit × MemSt nD τ sig (Elt F)) : Prop :=
  (∀ c : Dev nD, r.2.mem ((c : Thread nD τ).loc main_v1) = outAt m c ∧ r.2.mem ((c : Thread nD τ).loc main_arg0) = m ((c : Thread nD τ).loc main_arg0))
    ∧ r.2.sem = fun _ => 0

set_option maxRecDepth 8000 in
/-- From any memory with its semaphores at zero, @main on the eight devices ends, without fault, in such a state. -/
theorem run_main : θ_run defs (onTc (τ := τ) (main (F := F))) ⟨m, fun _ => 0, ρ⟩ (Done m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := enter m) (hout := leave m)
    (QY := atEnd m) (hY := read_end m)
    (hQ := fun _ h hs => ⟨fun c => ⟨((h c).1 0).trans (result_eq m c), (h c).2.2.2⟩, sem_eq_zero hs fun c => (h c).2.2.1⟩)

end Cert.KernelIdeal.Swap

end
-- ==== Proof.KernelIdeal.Value.lean ====
/-
The value: when the devices' blocks of `x` are those of one array cut by rows along the mesh's third axis, what each
device's result ends with is its block of the same array cut by columns along that axis.
-/
module

public import proofs.«01_k».proof.Proof.KernelIdeal.Pieces
public import Idealize.ShloMosaic.Lib.Layout

@[expose] public section

noncomputable section

namespace Cert.KernelIdeal.Swap

open Cert.KernelIdeal Cert.KernelIdeal.Gen

open Idealize.ShloMosaic
open Idealize.ShloMosaic.TcCoe

variable {F : FTy → Type} [FloatOps F]

variable (m : (ℓ : Loc nD τ sig) → Buf (Elt F) ℓ)

/-- The whole array's shape. -/
abbrev Whole : Shape := ⟨2, ![2048, 1024]⟩

/-- Of the two devices that trade, the one whose block row `r` lies in is at place `r / 1024` of the axis. -/
theorem source_mod (c : Dev nD) {r : ℕ} (hr : r < 2048) : (source c r).val % 2 = r / 1024 := by
  have := peer_mod c
  unfold source
  split <;> omega

/-- A device's place on the third axis is the block it holds. -/
theorem place (c : Dev nD) : Layout.meshLin [2, 2, 2] c.val [2] = c.val % 2 := by
  show c.val / 1 % 2 * 1 + 0 = c.val % 2
  omega

theorem rows_idx (h : Layout.TilesN ⟨2, ![1024, 1024]⟩ Whole fun b => Layout.cutSize [2, 2, 2] ((![[2], []] : Fin 2 → List ℕ) b)) (d : Dev nD) (i : S1024x1024.Idx) :
    (h.idx (Layout.meshBlock [2, 2, 2] ![[2], []] d) i 0).val = d.val % 2 * 1024 + (i 0).val
      ∧ (h.idx (Layout.meshBlock [2, 2, 2] ![[2], []] d) i 1).val = (i 1).val :=
  ⟨congrArg (· * 1024 + (i 0).val) (place d), Nat.zero_add _⟩

theorem columns_idx (h : Layout.TilesN ⟨2, ![2048, 512]⟩ Whole fun b => Layout.cutSize [2, 2, 2] ((![[], [2]] : Fin 2 → List ℕ) b)) (d : Dev nD) (i : S2048x512.Idx) :
    (h.idx (Layout.meshBlock [2, 2, 2] ![[], [2]] d) i 0).val = (i 0).val
      ∧ (h.idx (Layout.meshBlock [2, 2, 2] ![[], [2]] d) i 1).val = d.val % 2 * 512 + (i 1).val :=
  ⟨Nat.zero_add _, congrArg (· * 512 + (i 1).val) (place d)⟩

/-- From the array's blocks of rows to its blocks of columns. -/
theorem outAt_columns (v : Whole.Idx → Elt F .f32)
    (hx : ∀ c : Dev nD, xin m c = Layout.blockN ⟨2, ![1024, 1024]⟩ Whole (Layout.meshBlock [2, 2, 2] ![[2], []] c) v) (c : Dev nD) :
    outAt m c = Layout.blockN ⟨2, ![2048, 512]⟩ Whole (Layout.meshBlock [2, 2, 2] ![[], [2]] c) v := by
  funext i
  have hi : (i 0).val < 2048 := (i 0).isLt
  have hs := source_mod c hi
  unfold outAt
  rw [hx, Layout.blockN_apply, Layout.blockN_apply]
  refine congrArg v (funext fun a => Fin.ext ?_)
  match a with
  | ⟨0, _⟩ =>
    refine (rows_idx _ _ _).1.trans (Eq.trans ?_ (columns_idx _ _ _).1.symm)
    rw [hs]
    show (i 0).val / 1024 * 1024 + (i 0).val % 1024 = (i 0).val
    omega
  | ⟨1, _⟩ =>
    refine (rows_idx _ _ _).2.trans (Eq.trans ?_ (columns_idx _ _ _).2.symm)
    show 512 * (c.val % 2) + (i 1).val = c.val % 2 * 512 + (i 1).val
    omega

end Cert.KernelIdeal.Swap

end
-- ==== Proof.Reference.lean ====
/-
The reference's run: it computes nothing, so its array ends as it began, and it has no semaphore.
-/
module

public import proofs.«01_k».proof.Proof.Gen.ReferenceIdeal
public import Idealize.ShloMosaic.Lib.StableHlo.RunHlo
public import Idealize.ShloMosaic.Lib.Quiescent

@[expose] public section

noncomputable section

namespace Cert.ReferenceIdeal.Same

open Cert.ReferenceIdeal Cert.ReferenceIdeal.Gen

open Idealize.ShloMosaic Idealize.SL.Sem

variable {F : FTy → Type} [FloatOps F]

/-- From any memory with its semaphores at zero, the reference ends with its argument, which is its result, unchanged,
    and every semaphore at zero. -/
theorem run_main (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  (θ_run defs _ _).mono (fun r h => ⟨fun c => h c main_arg0, sem_eq_zero_of_no_sems rfl r.2⟩)
    (StableHlo.run_hlo defs main (ops := []) (fun _ => StableHlo.IsSeq.nil) (by decide) (by decide) trivial (fun _ h => absurd h List.not_mem_nil) m ρ)

end Cert.ReferenceIdeal.Same

end
-- ==== Proof.lean ====
/-
The proof of `Cert.Claim`: the two readings of the kernel run and leave their semaphores at zero, the reference does,
and at the ideal instance the kernel's result on each device is that device's block of columns of the reference's array.
-/
module

public import proofs.«01_k».proof.Defs
public import proofs.«01_k».proof.Proof.Kernel.Run
public import proofs.«01_k».proof.Proof.KernelIdeal.Run
public import proofs.«01_k».proof.Proof.KernelIdeal.Value
public import proofs.«01_k».proof.Proof.Reference

@[expose] public section

noncomputable section

namespace Cert.Proof

open Idealize.ShloMosaic Idealize.SL.Sem

/-- The kernel as printed ends, with `x` unchanged and every semaphore at zero. -/
theorem kernel_frame : Cert.quiescent_Kernel := fun m ρ _ =>
  (θ_run Cert.Kernel.defs _ _).mono (fun _ h => ⟨fun c => (h.1 c).2, h.2⟩) (Cert.Kernel.Swap.run_main m ρ)

/-- So does its ideal reading, -/
theorem ideal_frame : Cert.quiescent_KernelIdeal := fun m ρ _ =>
  (θ_run Cert.KernelIdeal.defs _ _).mono (fun _ h => ⟨fun c => (h.1 c).2, h.2⟩) (Cert.KernelIdeal.Swap.run_main m ρ)

/-- and the reference. -/
theorem reference_frame : Cert.quiescent_ReferenceIdeal := fun m ρ _ => Cert.ReferenceIdeal.Same.run_main m ρ

/-- The devices' results are the blocks of columns of the array whose blocks of rows they were given. -/
theorem value : Cert.algebraic_KernelIdeal_ReferenceIdeal := fun m ρ m' ρ' _ hx =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c).1.trans (Cert.KernelIdeal.Swap.outAt_columns m _ hx c), (h.1 c).2⟩)
      (Cert.KernelIdeal.Swap.run_main m ρ),
    (θ_run Cert.ReferenceIdeal.defs _ _).mono (fun _ h => ⟨h.1 0, h.1 0⟩) (Cert.ReferenceIdeal.Same.run_main m' ρ')⟩

theorem claim : Cert.Claim :=
  ⟨Cert.Kernel.Gen.facts, Cert.KernelIdeal.Gen.facts, Cert.ReferenceIdeal.Gen.facts,
    kernel_frame, ideal_frame, reference_frame, trivial, value⟩

end Cert.Proof

end
